-- ==== Defs.lean ====
def Pre_Kernel [hPre_targets_in_range : Cert.Pre_targets_in_range.Facts] (m : (ℓ : Loc Cert.Kernel.nD Cert.Kernel.τ Cert.Kernel.sig) → Buf (Elt Bits) ℓ) : Prop :=
  ∀ c : Dev Cert.Kernel.nD,
    (Cert.Pre_targets_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_targets_in_range : Cert.Pre_targets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_in_range : Cert.Pre_targets_in_range.Facts),
    quiescent_Kernel (hKernel := hKernel) (hPre_targets_in_range := hPre_targets_in_range)
    ∧ quiescent_KernelIdeal (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ preserves_Kernel_KernelIdeal
    ∧ algebraic_KernelIdeal_ReferenceIdeal (hKernelIdeal := hKernelIdeal) (hReferenceIdeal := hReferenceIdeal) (hPre_targets_in_range := hPre_targets_in_range)
-- ==== Pre_targets_in_range.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : FVec F S8x19x512x512 .f32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 32 := constantI S_ 32 19#32
  let main_v2 : IVec S8x512x512 32 := broadcastInDim S8x512x512 ![] bcast_S_S8x512x512 main_c_0
  let main_v3 : IVec S8x512x512 1 := cmpi .slt main_arg1 main_v2
  let main_v4 : IVec S8x512x512 1 := andi main_v1 main_v3
  let main_c_1 : IVec S_ 1 := constantI S_ 1 1#1
  let main_v5 : IVec S_ 1 := (fun x v => Host.reduce IntOp.andi x v reducesTo_S8x512x512_S_d0_1_2 h_S_) main_v4 main_c_1
  main_v5
-- ==== Kernel.lean ====
abbrev S8x19x512x512 : Shape := ⟨4, ![8, 19, 512, 512]⟩
abbrev S8x512x512 : Shape := ⟨3, ![8, 512, 512]⟩
abbrev S32x304 : Shape := ⟨2, ![32, 304]⟩
abbrev S128x512 : Shape := ⟨2, ![128, 512]⟩
abbrev S1216 : Shape := ⟨1, ![1216]⟩
abbrev S304 : Shape := ⟨1, ![304]⟩
abbrev S_ : Shape := ⟨0, ![]⟩
abbrev S1x128x512 : Shape := ⟨3, ![1, 128, 512]⟩
abbrev S16 : Shape := ⟨1, ![16]⟩
abbrev S1x16 : Shape := ⟨2, ![1, 16]⟩
abbrev S1x304 : Shape := ⟨2, ![1, 304]⟩
abbrev S32x19x16 : Shape := ⟨3, ![32, 19, 16]⟩
abbrev S19 : Shape := ⟨1, ![19]⟩
abbrev S1 : Shape := ⟨1, ![1]⟩
abbrev S1x19x256x512 : Shape := ⟨4, ![1, 19, 256, 512]⟩
abbrev S1x256x512 : Shape := ⟨3, ![1, 256, 512]⟩
abbrev S3 : Shape := ⟨1, ![3]⟩
abbrev S19x256x512 : Shape := ⟨3, ![19, 256, 512]⟩
abbrev S256x512 : Shape := ⟨2, ![256, 512]⟩
abbrev S1x1x1 : Shape := ⟨3, ![1, 1, 1]⟩

abbrev nBuf : Table → Nat
  | .hbm => 8
  | .local .tc .vmem => 4
  | .local .tc .smem => 3
  | .local .scVector .vmem => 3
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S32x304, .f32⟩
  | .hbm, ⟨3, _⟩ => ⟨S32x19x16, .f32⟩
  | .hbm, ⟨4, _⟩ => ⟨S_, .f32⟩
  | .hbm, ⟨5, _⟩ => ⟨S19, .f32⟩
  | .hbm, ⟨6, _⟩ => ⟨S1, .f32⟩
  | .hbm, ⟨7, _⟩ => ⟨S_, .f32⟩
  | .local .tc .vmem, ⟨0, _⟩ => ⟨S1x19x256x512, .f32⟩
  | .local .tc .vmem, ⟨1, _⟩ => ⟨S1x19x256x512, .f32⟩
  | .local .tc .vmem, ⟨2, _⟩ => ⟨S1x256x512, .i32⟩
  | .local .tc .vmem, ⟨3, _⟩ => ⟨S1x256x512, .i32⟩
  | .local .tc .smem, ⟨0, _⟩ => ⟨S19, .f32⟩
  | .local .tc .smem, ⟨1, _⟩ => ⟨S1, .f32⟩
  | .local .tc .smem, ⟨2, _⟩ => ⟨S3, .f32⟩
  | .local .scVector .vmem, ⟨0, _⟩ => ⟨S128x512, .i32⟩
  | .local .scVector .vmem, ⟨1, _⟩ => ⟨S1216, .f32⟩
  | .local .scVector .vmem, ⟨2, _⟩ => ⟨S304, .f32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg1_scv : Ref sig .scVector := ⟨.hbm, 1, rfl⟩
abbrev main_v0_scv : Ref sig .scVector := ⟨.hbm, 2, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg0_0 : Ref sig .tc := ⟨.smem, 0, rfl⟩
abbrev cc1_stg3_0 : Ref sig .tc := ⟨.smem, 1, rfl⟩
abbrev cc1_scratch0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 2
abbrev cc1_sem1_0 : DmaSem sig := 3
abbrev cc1_sem1_1 : DmaSem sig := 4
abbrev cc1_sem2_0 : DmaSem sig := 5
abbrev cc1_sem2_1 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_110_r0 : BitVec 32 := 0#32
  ![v18.toNat, v29.toNat, 0]
@[reducible] def k0_t1_loop : Scf.Loop 32 :=
  let c0_i32_11 : BitVec 32 := 0#32
  let c128_i32_12 : BitVec 32 := 128#32
  let v109 : BitVec 32 := Scalar.addi c0_i32_11 c128_i32_12
  let c1_i32_13 : BitVec 32 := 1#32
  ⟨c0_i32_11, v109, c1_i32_13⟩
def k0_off2 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v264 : Index := Scalar.indexCast v263
  let c0_112 : Index := 0#32
  ![v264.toNat, 0]

def k0_chk1 (v270 : IVec S16 32) : Prop :=
  (∀ a x, ((![v270] : Fin 1 → IVec S16 32) a x).toNat < S1216.size a)
theorem k0_idx1_inb : ∀ (v270 : IVec S16 32) (k0_hw1 : k0_chk1 v270), ∀ a x, ((![v270] : Fin 1 → IVec S16 32) a x).toNat < S1216.size a := fun v270 k0_hw1 => k0_hw1
def k0_off3 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v271 : Index := Scalar.indexCast v263
  let c16_114 : Index := 16#32
  ![v271.toNat, 16]

def k0_chk2 (v277 : IVec S16 32) : Prop :=
  (∀ a x, ((![v277] : Fin 1 → IVec S16 32) a x).toNat < S1216.size a)
theorem k0_idx2_inb : ∀ (v277 : IVec S16 32) (k0_hw2 : k0_chk2 v277), ∀ a x, ((![v277] : Fin 1 → IVec S16 32) a x).toNat < S1216.size a := fun v277 k0_hw2 => k0_hw2
def k0_off4 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v278 : Index := Scalar.indexCast v263
  let c32_116 : Index := 32#32
  ![v278.toNat, 32]

def k0_chk3 (v284 : IVec S16 32) : Prop :=
  (∀ a x, ((![v284] : Fin 1 → IVec S16 32) a x).toNat < S1216.size a)
theorem k0_idx3_inb : ∀ (v284 : IVec S16 32) (k0_hw3 : k0_chk3 v284), ∀ a x, ((![v284] : Fin 1 → IVec S16 32) a x).toNat < S1216.size a := fun v284 k0_hw3 => k0_hw3
def k0_off5 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v285 : Index := Scalar.indexCast v263
  let c48_118 : Index := 48#32
  ![v285.toNat, 48]

def k0_chk4 (v291 : IVec S16 32) : Prop :=
  (∀ a x, ((![v291] : Fin 1 → IVec S16 32) a x).toNat < S1216.size a)
theorem k0_idx4_inb : ∀ (v291 : IVec S16 32) (k0_hw4 : k0_chk4 v291), ∀ a x, ((![v291] : Fin 1 → IVec S16 32) a x).toNat < S1216.size a := fun v291 k0_hw4 => k0_hw4
def k0_off6 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v292 : Index := Scalar.indexCast v263
  let c64_120 : Index := 64#32
  ![v292.toNat, 64]

def k0_chk5 (v298 : IVec S16 32) : Prop :=
  (∀ a x, ((![v298] : Fin 1 → IVec S16 32) a x).toNat < S1216.size a)
theorem k0_idx5_inb : ∀ (v298 : IVec S16 32) (k0_hw5 : k0_chk5 v298), ∀ a x, ((![v298] : Fin 1 → IVec S16 32) a x).toNat < S1216.size a := fun v298 k0_hw5 => k0_hw5
def k0_off7 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v299 : Index := Scalar.indexCast v263
  let c80_123 : Index := 80#32
  ![v299.toNat, 80]

def k0_chk6 (v305 : IVec S16 32) : Prop :=
  (∀ a x, ((![v305] : Fin 1 → IVec S16 32) a x).toNat < S1216.size a)
theorem k0_idx6_inb : ∀ (v305 : IVec S16 32) (k0_hw6 : k0_chk6 v305), ∀ a x, ((![v305] : Fin 1 → IVec S16 32) a x).toNat < S1216.size a := fun v305 k0_hw6 => k0_hw6
def k0_off8 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v306 : Index := Scalar.indexCast v263
  let c96_126 : Index := 96#32
  ![v306.toNat, 96]

def k0_chk7 (v312 : IVec S16 32) : Prop :=
  (∀ a x, ((![v312] : Fin 1 → IVec S16 32) a x).toNat < S1216.size a)
theorem k0_idx7_inb : ∀ (v312 : IVec S16 32) (k0_hw7 : k0_chk7 v312), ∀ a x, ((![v312] : Fin 1 → IVec S16 32) a x).toNat < S1216.size a := fun v312 k0_hw7 => k0_hw7
def k0_off9 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v313 : Index := Scalar.indexCast v263
  let c112_129 : Index := 112#32
  ![v313.toNat, 112]

def k0_chk8 (v319 : IVec S16 32) : Prop :=
  (∀ a x, ((![v319] : Fin 1 → IVec S16 32) a x).toNat < S1216.size a)
theorem k0_idx8_inb : ∀ (v319 : IVec S16 32) (k0_hw8 : k0_chk8 v319), ∀ a x, ((![v319] : Fin 1 → IVec S16 32) a x).toNat < S1216.size a := fun v319 k0_hw8 => k0_hw8
def k0_off10 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v320 : Index := Scalar.indexCast v263
  let c128_132 : Index := 128#32
  ![v320.toNat, 128]

def k0_chk9 (v326 : IVec S16 32) : Prop :=
  (∀ a x, ((![v326] : Fin 1 → IVec S16 32) a x).toNat < S1216.size a)
theorem k0_idx9_inb : ∀ (v326 : IVec S16 32) (k0_hw9 : k0_chk9 v326), ∀ a x, ((![v326] : Fin 1 → IVec S16 32) a x).toNat < S1216.size a := fun v326 k0_hw9 => k0_hw9
def k0_off11 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v327 : Index := Scalar.indexCast v263
  let c144_135 : Index := 144#32
  ![v327.toNat, 144]

def k0_chk10 (v333 : IVec S16 32) : Prop :=
  (∀ a x, ((![v333] : Fin 1 → IVec S16 32) a x).toNat < S1216.size a)
theorem k0_idx10_inb : ∀ (v333 : IVec S16 32) (k0_hw10 : k0_chk10 v333), ∀ a x, ((![v333] : Fin 1 → IVec S16 32) a x).toNat < S1216.size a := fun v333 k0_hw10 => k0_hw10
def k0_off12 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v334 : Index := Scalar.indexCast v263
  let c160_138 : Index := 160#32
  ![v334.toNat, 160]

def k0_chk11 (v340 : IVec S16 32) : Prop :=
  (∀ a x, ((![v340] : Fin 1 → IVec S16 32) a x).toNat < S1216.size a)
theorem k0_idx11_inb : ∀ (v340 : IVec S16 32) (k0_hw11 : k0_chk11 v340), ∀ a x, ((![v340] : Fin 1 → IVec S16 32) a x).toNat < S1216.size a := fun v340 k0_hw11 => k0_hw11
def k0_off13 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v341 : Index := Scalar.indexCast v263
  let c176_141 : Index := 176#32
  ![v341.toNat, 176]

def k0_chk12 (v347 : IVec S16 32) : Prop :=
  (∀ a x, ((![v347] : Fin 1 → IVec S16 32) a x).toNat < S1216.size a)
theorem k0_idx12_inb : ∀ (v347 : IVec S16 32) (k0_hw12 : k0_chk12 v347), ∀ a x, ((![v347] : Fin 1 → IVec S16 32) a x).toNat < S1216.size a := fun v347 k0_hw12 => k0_hw12
def k0_off14 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v348 : Index := Scalar.indexCast v263
  let c192_144 : Index := 192#32
  ![v348.toNat, 192]

def k0_chk13 (v354 : IVec S16 32) : Prop :=
  (∀ a x, ((![v354] : Fin 1 → IVec S16 32) a x).toNat < S1216.size a)
theorem k0_idx13_inb : ∀ (v354 : IVec S16 32) (k0_hw13 : k0_chk13 v354), ∀ a x, ((![v354] : Fin 1 → IVec S16 32) a x).toNat < S1216.size a := fun v354 k0_hw13 => k0_hw13
def k0_off15 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v355 : Index := Scalar.indexCast v263
  let c208_147 : Index := 208#32
  ![v355.toNat, 208]

def k0_chk14 (v361 : IVec S16 32) : Prop :=
  (∀ a x, ((![v361] : Fin 1 → IVec S16 32) a x).toNat < S1216.size a)
theorem k0_idx14_inb : ∀ (v361 : IVec S16 32) (k0_hw14 : k0_chk14 v361), ∀ a x, ((![v361] : Fin 1 → IVec S16 32) a x).toNat < S1216.size a := fun v361 k0_hw14 => k0_hw14
def k0_off16 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v362 : Index := Scalar.indexCast v263
  let c224_150 : Index := 224#32
  ![v362.toNat, 224]

def k0_chk15 (v368 : IVec S16 32) : Prop :=
  (∀ a x, ((![v368] : Fin 1 → IVec S16 32) a x).toNat < S1216.size a)
theorem k0_idx15_inb : ∀ (v368 : IVec S16 32) (k0_hw15 : k0_chk15 v368), ∀ a x, ((![v368] : Fin 1 → IVec S16 32) a x).toNat < S1216.size a := fun v368 k0_hw15 => k0_hw15
def k0_off17 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v369 : Index := Scalar.indexCast v263
  let c240_153 : Index := 240#32
  ![v369.toNat, 240]

def k0_chk16 (v375 : IVec S16 32) : Prop :=
  (∀ a x, ((![v375] : Fin 1 → IVec S16 32) a x).toNat < S1216.size a)
theorem k0_idx16_inb : ∀ (v375 : IVec S16 32) (k0_hw16 : k0_chk16 v375), ∀ a x, ((![v375] : Fin 1 → IVec S16 32) a x).toNat < S1216.size a := fun v375 k0_hw16 => k0_hw16
def k0_off18 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v376 : Index := Scalar.indexCast v263
  let c256_156 : Index := 256#32
  ![v376.toNat, 256]

def k0_chk17 (v382 : IVec S16 32) : Prop :=
  (∀ a x, ((![v382] : Fin 1 → IVec S16 32) a x).toNat < S1216.size a)
theorem k0_idx17_inb : ∀ (v382 : IVec S16 32) (k0_hw17 : k0_chk17 v382), ∀ a x, ((![v382] : Fin 1 → IVec S16 32) a x).toNat < S1216.size a := fun v382 k0_hw17 => k0_hw17
def k0_off19 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v383 : Index := Scalar.indexCast v263
  let c272_159 : Index := 272#32
  ![v383.toNat, 272]

def k0_chk18 (v389 : IVec S16 32) : Prop :=
  (∀ a x, ((![v389] : Fin 1 → IVec S16 32) a x).toNat < S1216.size a)
theorem k0_idx18_inb : ∀ (v389 : IVec S16 32) (k0_hw18 : k0_chk18 v389), ∀ a x, ((![v389] : Fin 1 → IVec S16 32) a x).toNat < S1216.size a := fun v389 k0_hw18 => k0_hw18
def k0_off20 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v390 : Index := Scalar.indexCast v263
  let c288_162 : Index := 288#32
  ![v390.toNat, 288]

def k0_chk19 (v396 : IVec S16 32) : Prop :=
  (∀ a x, ((![v396] : Fin 1 → IVec S16 32) a x).toNat < S1216.size a)
theorem k0_idx19_inb : ∀ (v396 : IVec S16 32) (k0_hw19 : k0_chk19 v396), ∀ a x, ((![v396] : Fin 1 → IVec S16 32) a x).toNat < S1216.size a := fun v396 k0_hw19 => k0_hw19
def k0_off21 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v397 : Index := Scalar.indexCast v263
  let c304_165 : Index := 304#32
  ![v397.toNat, 304]

def k0_chk20 (v403 : IVec S16 32) : Prop :=
  (∀ a x, ((![v403] : Fin 1 → IVec S16 32) a x).toNat < S1216.size a)
theorem k0_idx20_inb : ∀ (v403 : IVec S16 32) (k0_hw20 : k0_chk20 v403), ∀ a x, ((![v403] : Fin 1 → IVec S16 32) a x).toNat < S1216.size a := fun v403 k0_hw20 => k0_hw20
def k0_off22 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v404 : Index := Scalar.indexCast v263
  let c320_168 : Index := 320#32
  ![v404.toNat, 320]

def k0_chk21 (v410 : IVec S16 32) : Prop :=
  (∀ a x, ((![v410] : Fin 1 → IVec S16 32) a x).toNat < S1216.size a)
theorem k0_idx21_inb : ∀ (v410 : IVec S16 32) (k0_hw21 : k0_chk21 v410), ∀ a x, ((![v410] : Fin 1 → IVec S16 32) a x).toNat < S1216.size a := fun v410 k0_hw21 => k0_hw21
def k0_off23 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v411 : Index := Scalar.indexCast v263
  let c336_171 : Index := 336#32
  ![v411.toNat, 336]

def k0_chk22 (v417 : IVec S16 32) : Prop :=
  (∀ a x, ((![v417] : Fin 1 → IVec S16 32) a x).toNat < S1216.size a)
theorem k0_idx22_inb : ∀ (v417 : IVec S16 32) (k0_hw22 : k0_chk22 v417), ∀ a x, ((![v417] : Fin 1 → IVec S16 32) a x).toNat < S1216.size a := fun v417 k0_hw22 => k0_hw22
def k0_off24 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v418 : Index := Scalar.indexCast v263
  let c352_174 : Index := 352#32
  ![v418.toNat, 352]

def k0_chk23 (v424 : IVec S16 32) : Prop :=
  (∀ a x, ((![v424] : Fin 1 → IVec S16 32) a x).toNat < S1216.size a)
theorem k0_idx23_inb : ∀ (v424 : IVec S16 32) (k0_hw23 : k0_chk23 v424), ∀ a x, ((![v424] : Fin 1 → IVec S16 32) a x).toNat < S1216.size a := fun v424 k0_hw23 => k0_hw23
def k0_off25 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v425 : Index := Scalar.indexCast v263
  let c368_177 : Index := 368#32
  ![v425.toNat, 368]

def k0_chk24 (v431 : IVec S16 32) : Prop :=
  (∀ a x, ((![v431] : Fin 1 → IVec S16 32) a x).toNat < S1216.size a)
theorem k0_idx24_inb : ∀ (v431 : IVec S16 32) (k0_hw24 : k0_chk24 v431), ∀ a x, ((![v431] : Fin 1 → IVec S16 32) a x).toNat < S1216.size a := fun v431 k0_hw24 => k0_hw24
def k0_off26 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v432 : Index := Scalar.indexCast v263
  let c384_180 : Index := 384#32
  ![v432.toNat, 384]

def k0_chk25 (v438 : IVec S16 32) : Prop :=
  (∀ a x, ((![v438] : Fin 1 → IVec S16 32) a x).toNat < S1216.size a)
theorem k0_idx25_inb : ∀ (v438 : IVec S16 32) (k0_hw25 : k0_chk25 v438), ∀ a x, ((![v438] : Fin 1 → IVec S16 32) a x).toNat < S1216.size a := fun v438 k0_hw25 => k0_hw25
def k0_off27 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v439 : Index := Scalar.indexCast v263
  let c400_183 : Index := 400#32
  ![v439.toNat, 400]

def k0_chk26 (v445 : IVec S16 32) : Prop :=
  (∀ a x, ((![v445] : Fin 1 → IVec S16 32) a x).toNat < S1216.size a)
theorem k0_idx26_inb : ∀ (v445 : IVec S16 32) (k0_hw26 : k0_chk26 v445), ∀ a x, ((![v445] : Fin 1 → IVec S16 32) a x).toNat < S1216.size a := fun v445 k0_hw26 => k0_hw26
def k0_off28 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v446 : Index := Scalar.indexCast v263
  let c416_186 : Index := 416#32
  ![v446.toNat, 416]

def k0_chk27 (v452 : IVec S16 32) : Prop :=
  (∀ a x, ((![v452] : Fin 1 → IVec S16 32) a x).toNat < S1216.size a)
theorem k0_idx27_inb : ∀ (v452 : IVec S16 32) (k0_hw27 : k0_chk27 v452), ∀ a x, ((![v452] : Fin 1 → IVec S16 32) a x).toNat < S1216.size a := fun v452 k0_hw27 => k0_hw27
def k0_off29 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v453 : Index := Scalar.indexCast v263
  let c432_189 : Index := 432#32
  ![v453.toNat, 432]

def k0_chk28 (v459 : IVec S16 32) : Prop :=
  (∀ a x, ((![v459] : Fin 1 → IVec S16 32) a x).toNat < S1216.size a)
theorem k0_idx28_inb : ∀ (v459 : IVec S16 32) (k0_hw28 : k0_chk28 v459), ∀ a x, ((![v459] : Fin 1 → IVec S16 32) a x).toNat < S1216.size a := fun v459 k0_hw28 => k0_hw28
def k0_off30 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v460 : Index := Scalar.indexCast v263
  let c448_192 : Index := 448#32
  ![v460.toNat, 448]

def k0_chk29 (v466 : IVec S16 32) : Prop :=
  (∀ a x, ((![v466] : Fin 1 → IVec S16 32) a x).toNat < S1216.size a)
theorem k0_idx29_inb : ∀ (v466 : IVec S16 32) (k0_hw29 : k0_chk29 v466), ∀ a x, ((![v466] : Fin 1 → IVec S16 32) a x).toNat < S1216.size a := fun v466 k0_hw29 => k0_hw29
def k0_off31 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v467 : Index := Scalar.indexCast v263
  let c464_195 : Index := 464#32
  ![v467.toNat, 464]

def k0_chk30 (v473 : IVec S16 32) : Prop :=
  (∀ a x, ((![v473] : Fin 1 → IVec S16 32) a x).toNat < S1216.size a)
theorem k0_idx30_inb : ∀ (v473 : IVec S16 32) (k0_hw30 : k0_chk30 v473), ∀ a x, ((![v473] : Fin 1 → IVec S16 32) a x).toNat < S1216.size a := fun v473 k0_hw30 => k0_hw30
def k0_off32 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v474 : Index := Scalar.indexCast v263
  let c480_198 : Index := 480#32
  ![v474.toNat, 480]

def k0_chk31 (v480 : IVec S16 32) : Prop :=
  (∀ a x, ((![v480] : Fin 1 → IVec S16 32) a x).toNat < S1216.size a)
theorem k0_idx31_inb : ∀ (v480 : IVec S16 32) (k0_hw31 : k0_chk31 v480), ∀ a x, ((![v480] : Fin 1 → IVec S16 32) a x).toNat < S1216.size a := fun v480 k0_hw31 => k0_hw31
def k0_off33 (k0_t1 : Fin k0_t1_loop.trips) : Fin 2 → Nat :=
  let c0_i32_111 : BitVec 32 := 0#32
  let c0_i32_11 : BitVec 32 := 0#32
  let c1_i32_13 : BitVec 32 := 1#32
  let arg7 : BitVec 32 := Scf.iv c0_i32_11 c1_i32_13 k0_t1
  let c1_i32_110 : BitVec 32 := 1#32
  let v262 : BitVec 32 := Scalar.muli arg7 c1_i32_110
  let v263 : BitVec 32 := Scalar.addi c0_i32_111 v262
  let v481 : Index := Scalar.indexCast v263
  let c496_201 : Index := 496#32
  ![v481.toNat, 496]

def k0_chk32 (v487 : IVec S16 32) : Prop :=
  (∀ a x, ((![v487] : Fin 1 → IVec S16 32) a x).toNat < S1216.size a)
theorem k0_idx32_inb : ∀ (v487 : IVec S16 32) (k0_hw32 : k0_chk32 v487), ∀ a x, ((![v487] : Fin 1 → IVec S16 32) a x).toNat < S1216.size a := fun v487 k0_hw32 => k0_hw32
def k0_off34 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_110_r1 : BitVec 32 := 0#32
  ![v1.toNat, 0]
abbrev grid1 : Pipeline.Grid := ⟨2, ![8, 2], ![false, false]⟩

def k1_cond3 (i : grid1.Coords) : BitVec 1 :=
  let arg1 : BitVec 32 := BitVec.ofNat 32 (i 1).val
  let c1_i32_110 : BitVec 32 := 1#32
  let v309 : BitVec 1 := Scalar.cmpi .eq arg1 c1_i32_110
  let v310 : BitVec 32 := Scalar.extui v309
  let c0_i32_111 : BitVec 32 := 0#32
  let v311 : BitVec 1 := Scalar.cmpi .ne v310 c0_i32_111
  v311

def k1_cond6 (i : grid1.Coords) : BitVec 1 :=
  let arg0 : BitVec 32 := BitVec.ofNat 32 (i 0).val
  let c7_i32_119 : BitVec 32 := 7#32
  let v322 : BitVec 1 := Scalar.cmpi .eq arg0 c7_i32_119
  let v323 : BitVec 32 := Scalar.extui v322
  let c0_i32_120 : BitVec 32 := 0#32
  let v324 : BitVec 1 := Scalar.cmpi .ne v323 c0_i32_120
  v324

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage1_0 : Fin 1 → Memref sig .tc .smem S19 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x19x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S2097152 : Shape := ⟨1, ![2097152]⟩
abbrev S_ : Shape := ⟨0, ![]⟩
abbrev S19 : Shape := ⟨1, ![19]⟩
abbrev S2097152x1 : Shape := ⟨2, ![2097152, 1]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x512x512x1 : Shape := ⟨4, ![8, 512, 512, 1]⟩
abbrev S8 : Shape := ⟨1, ![8]⟩

abbrev nBuf : Space → Nat
  | .hbm => 114
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S2097152, .i32⟩
  | .hbm, ⟨3, _⟩ => ⟨S_, .i32⟩
  | .hbm, ⟨4, _⟩ => ⟨S2097152, .i32⟩
  | .hbm, ⟨5, _⟩ => ⟨S2097152, .i1⟩
  | .hbm, ⟨6, _⟩ => ⟨S_, .i32⟩
  | .hbm, ⟨7, _⟩ => ⟨S2097152, .i32⟩
  | .hbm, ⟨8, _⟩ => ⟨S2097152, .i1⟩
  | .hbm, ⟨9, _⟩ => ⟨S2097152, .i1⟩
  | .hbm, ⟨10, _⟩ => ⟨S_, .i32⟩
  | .hbm, ⟨11, _⟩ => ⟨S_, .i32⟩
  | .hbm, ⟨12, _⟩ => ⟨S2097152, .i32⟩
  | .hbm, ⟨13, _⟩ => ⟨S2097152, .i32⟩
  | .hbm, ⟨14, _⟩ => ⟨S2097152, .f32⟩
  | .hbm, ⟨15, _⟩ => ⟨S_, .f32⟩
  | .hbm, ⟨16, _⟩ => ⟨S19, .f32⟩
  | .hbm, ⟨17, _⟩ => ⟨S_, .i32⟩
  | .hbm, ⟨18, _⟩ => ⟨S_, .i32⟩
  | .hbm, ⟨19, _⟩ => ⟨S2097152, .i32⟩
  | .hbm, ⟨20, _⟩ => ⟨S2097152, .i32⟩
  | .hbm, ⟨21, _⟩ => ⟨S_, .i32⟩
  | .hbm, ⟨22, _⟩ => ⟨S2097152, .i32⟩
  | .hbm, ⟨23, _⟩ => ⟨S2097152, .i1⟩
  | .hbm, ⟨24, _⟩ => ⟨S_, .i32⟩
  | .hbm, ⟨25, _⟩ => ⟨S2097152, .i32⟩
  | .hbm, ⟨26, _⟩ => ⟨S2097152, .i32⟩
  | .hbm, ⟨27, _⟩ => ⟨S2097152, .i32⟩
  | .hbm, ⟨28, _⟩ => ⟨S2097152x1, .i32⟩
  | .hbm, ⟨29, _⟩ => ⟨S19, .f32⟩
  | .hbm, ⟨30, _⟩ => ⟨S_, .f32⟩
  | .hbm, ⟨31, _⟩ => ⟨S_, .f32⟩
  | .hbm, ⟨32, _⟩ => ⟨S19, .f32⟩
  | .hbm, ⟨33, _⟩ => ⟨S19, .f32⟩
  | .hbm, ⟨34, _⟩ => ⟨S_, .f32⟩
  | .hbm, ⟨35, _⟩ => ⟨S19, .f32⟩
  | .hbm, ⟨36, _⟩ => ⟨S19, .i1⟩
  | .hbm, ⟨37, _⟩ => ⟨S19, .f32⟩
  | .hbm, ⟨38, _⟩ => ⟨S_, .f32⟩
  | .hbm, ⟨39, _⟩ => ⟨S19, .f32⟩
  | .hbm, ⟨40, _⟩ => ⟨S19, .f32⟩
  | .hbm, ⟨41, _⟩ => ⟨S_, .f32⟩
  | .hbm, ⟨42, _⟩ => ⟨S19, .f32⟩
  | .hbm, ⟨43, _⟩ => ⟨S19, .f32⟩
  | .hbm, ⟨44, _⟩ => ⟨S19, .f32⟩
  | .hbm, ⟨45, _⟩ => ⟨S_, .f32⟩
  | .hbm, ⟨46, _⟩ => ⟨S19, .f32⟩
  | .hbm, ⟨47, _⟩ => ⟨S19, .f32⟩
  | .hbm, ⟨48, _⟩ => ⟨S_, .f32⟩
  | .hbm, ⟨49, _⟩ => ⟨S8x512x512, .f32⟩
  | .hbm, ⟨50, _⟩ => ⟨S_, .f32⟩
  | .hbm, ⟨51, _⟩ => ⟨S8x512x512, .f32⟩
  | .hbm, ⟨52, _⟩ => ⟨S8x512x512, .f32⟩
  | .hbm, ⟨53, _⟩ => ⟨S8x1x512x512, .f32⟩
  | .hbm, ⟨54, _⟩ => ⟨S8x19x512x512, .f32⟩
  | .hbm, ⟨55, _⟩ => ⟨S8x19x512x512, .f32⟩
  | .hbm, ⟨56, _⟩ => ⟨S8x19x512x512, .f32⟩
  | .hbm, ⟨57, _⟩ => ⟨S_, .f32⟩
  | .hbm, ⟨58, _⟩ => ⟨S8x512x512, .f32⟩
  | .hbm, ⟨59, _⟩ => ⟨S8x1x512x512, .f32⟩
  | .hbm, ⟨60, _⟩ => ⟨S8x1x512x512, .f32⟩
  | .hbm, ⟨61, _⟩ => ⟨S8x19x512x512, .f32⟩
  | .hbm, ⟨62, _⟩ => ⟨S8x19x512x512, .f32⟩
  | .hbm, ⟨63, _⟩ => ⟨S_, .i32⟩
  | .hbm, ⟨64, _⟩ => ⟨S8x512x512, .i32⟩
  | .hbm, ⟨65, _⟩ => ⟨S8x512x512, .i1⟩
  | .hbm, ⟨66, _⟩ => ⟨S_, .i32⟩
  | .hbm, ⟨67, _⟩ => ⟨S_, .i32⟩
  | .hbm, ⟨68, _⟩ => ⟨S8x512x512, .i32⟩
  | .hbm, ⟨69, _⟩ => ⟨S8x512x512, .i32⟩
  | .hbm, ⟨70, _⟩ => ⟨S8x1x512x512, .i32⟩
  | .hbm, ⟨71, _⟩ => ⟨S_, .i32⟩
  | .hbm, ⟨72, _⟩ => ⟨S8x1x512x512, .i32⟩
  | .hbm, ⟨73, _⟩ => ⟨S8x1x512x512, .i1⟩
  | .hbm, ⟨74, _⟩ => ⟨S_, .i32⟩
  | .hbm, ⟨75, _⟩ => ⟨S8x1x512x512, .i32⟩
  | .hbm, ⟨76, _⟩ => ⟨S8x1x512x512, .i32⟩
  | .hbm, ⟨77, _⟩ => ⟨S8x1x512x512, .i32⟩
  | .hbm, ⟨78, _⟩ => ⟨S8x1x512x512x1, .i32⟩
  | .hbm, ⟨79, _⟩ => ⟨S1, .i32⟩
  | .hbm, ⟨80, _⟩ => ⟨S_, .i32⟩
  | .hbm, ⟨81, _⟩ => ⟨S8x1x512x512x1, .i32⟩
  | .hbm, ⟨82, _⟩ => ⟨S8x1x512x512x1, .i1⟩
  | .hbm, ⟨83, _⟩ => ⟨S1x1x1x1x1, .i32⟩
  | .hbm, ⟨84, _⟩ => ⟨S8x1x512x512x1, .i32⟩
  | .hbm, ⟨85, _⟩ => ⟨S8x1x512x512x1, .i1⟩
  | .hbm, ⟨86, _⟩ => ⟨S8x1x512x512x1, .i1⟩
  | .hbm, ⟨87, _⟩ => ⟨S_, .i1⟩
  | .hbm, ⟨88, _⟩ => ⟨S8x1x512x512, .i1⟩
  | .hbm, ⟨89, _⟩ => ⟨S8x1x512x512, .f32⟩
  | .hbm, ⟨90, _⟩ => ⟨S_, .f32⟩
  | .hbm, ⟨91, _⟩ => ⟨S8x1x512x512, .f32⟩
  | .hbm, ⟨92, _⟩ => ⟨S8x1x512x512, .f32⟩
  | .hbm, ⟨93, _⟩ => ⟨S8x512x512, .f32⟩
  | .hbm, ⟨94, _⟩ => ⟨S_, .i32⟩
  | .hbm, ⟨95, _⟩ => ⟨S8x512x512, .i32⟩
  | .hbm, ⟨96, _⟩ => ⟨S8x512x512, .i1⟩
  | .hbm, ⟨97, _⟩ => ⟨S_, .i32⟩
  | .hbm, ⟨98, _⟩ => ⟨S8x512x512, .i32⟩
  | .hbm, ⟨99, _⟩ => ⟨S8x512x512, .i32⟩
  | .hbm, ⟨100, _⟩ => ⟨S8x512x512, .i32⟩
  | .hbm, ⟨101, _⟩ => ⟨S8x512x512x1, .i32⟩
  | .hbm, ⟨102, _⟩ => ⟨S8x512x512, .f32⟩
  | .hbm, ⟨103, _⟩ => ⟨S8x512x512, .f32⟩
  | .hbm, ⟨104, _⟩ => ⟨S8x512x512, .f32⟩
  | .hbm, ⟨105, _⟩ => ⟨S8x512x512, .f32⟩
  | .hbm, ⟨106, _⟩ => ⟨S_, .f32⟩
  | .hbm, ⟨107, _⟩ => ⟨S8, .f32⟩
  | .hbm, ⟨108, _⟩ => ⟨S8, .f32⟩
  | .hbm, ⟨109, _⟩ => ⟨S_, .f32⟩
  | .hbm, ⟨110, _⟩ => ⟨S8, .f32⟩
  | .hbm, ⟨111, _⟩ => ⟨S8, .f32⟩
  | .hbm, ⟨112, _⟩ => ⟨S_, .f32⟩
  | .hbm, ⟨113, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_call2_cst_0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_cst_1 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_v30 : Ref sig .tc := ⟨.hbm, 62, rfl⟩
abbrev main_c_10 : Ref sig .tc := ⟨.hbm, 63, rfl⟩
abbrev main_v31 : Ref sig .tc := ⟨.hbm, 64, rfl⟩
abbrev main_v32 : Ref sig .tc := ⟨.hbm, 65, rfl⟩
abbrev main_c_11 : Ref sig .tc := ⟨.hbm, 66, rfl⟩
abbrev main_call3_v0 : Ref sig .tc := ⟨.hbm, 67, rfl⟩
abbrev main_call3_v1 : Ref sig .tc := ⟨.hbm, 68, rfl⟩
abbrev main_v33 : Ref sig .tc := ⟨.hbm, 69, rfl⟩
abbrev main_v34 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_cst : Ref sig .tc := ⟨.hbm, 90, rfl⟩
abbrev main_call4_v14 : Ref sig .tc := ⟨.hbm, 91, rfl⟩
abbrev main_v35 : Ref sig .tc := ⟨.hbm, 92, rfl⟩
abbrev main_v36 : Ref sig .tc := ⟨.hbm, 93, rfl⟩
abbrev main_c_12 : Ref sig .tc := ⟨.hbm, 94, rfl⟩
abbrev main_v37 : Ref sig .tc := ⟨.hbm, 95, rfl⟩
abbrev main_v38 : Ref sig .tc := ⟨.hbm, 96, rfl⟩
abbrev main_c_13 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_14 : Ref sig .tc := ⟨.hbm, 106, rfl⟩
abbrev main_v47 : Ref sig .tc := ⟨.hbm, 107, rfl⟩
abbrev main_v48 : Ref sig .tc := ⟨.hbm, 108, rfl⟩
abbrev main_cst_15 : Ref sig .tc := ⟨.hbm, 109, rfl⟩
abbrev main_v49 : Ref sig .tc := ⟨.hbm, 110, rfl⟩
abbrev main_v50 : Ref sig .tc := ⟨.hbm, 111, rfl⟩
abbrev main_cst_16 : Ref sig .tc := ⟨.hbm, 112, rfl⟩
abbrev main_v51 : Ref sig .tc := ⟨.hbm, 113, rfl⟩

abbrev nD : Nat := 1
abbrev τ : Topo := Topo.v7x

variable {F : FTy → Type} [FloatOps F]
-- ==== Proof.Base.lean ====
/-
  What every module of this proof opens with: the program as the launch theorem sees it (its SparseCore
  configuration, its definitions), the ghost state the proof uses, and the buffers by name.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof.K

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program under its SparseCore dispatch. -/
abbrev ΛP : Labels := Pipeline.Sig Λ₀ (Fin 1) fun p => (pcfgs (F := F) p).Adm
/-- The SparseCore configuration: one call. -/
abbrev K : SparseCore.Cfg τ sig (ΛP (F := F)) 1 := sc (F := F)
theorem nSub_zero : (K (F := F)).nSub 0 = 16 := rfl
theorem nCore_zero : (K (F := F)).nCore 0 = 2 := rfl
/-- The definitions under the dispatch: the TensorCore pipeline over the kernels' bodies. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × (UP × Counters)

/-- The handshakes' rounds: the left factor. -/
abbrev EH : Emb UH (MT nD τ sig (HIx 1) (Elt F) ℕ UU ℕ) := embL
/-- The pipeline's rounds: the left factor of the right one. -/
abbrev EP : Emb UP (MT nD τ sig (HIx 1) (Elt F) ℕ UU ℕ) := (Emb.inl : Emb UP (UP × Counters)).trans embR

/-! ## The buffers -/

/-- The arguments and the arrays of the module, as locations of device `d`. -/
abbrev xLoc (d : Dev nD) : Loc nD τ sig := (SparseCore.T d).loc main_arg0
abbrev tLoc (d : Dev nD) : Loc nD τ sig := (SparseCore.T d).loc main_arg1
abbrev pLoc (d : Dev nD) : Loc nD τ sig := (SparseCore.T d).loc main_v0

/-- The targets and the partial histograms, as a tile sees them. -/
abbrev tV : Memref sig .scVector .hbm S8x512x512 .i32 := Memref.whole main_arg1_scv
abbrev pV : Memref sig .scVector .hbm S32x304 .f32 := Memref.whole main_v0_scv
/-- A tile's scratch: its band of targets, its four sub-histograms, their sum. -/
abbrev sT : Memref sig .scVector .vmem S128x512 .i32 := Memref.whole cc0_scratch0
abbrev sH : Memref sig .scVector .vmem S1216 .f32 := Memref.whole cc0_scratch1
abbrev sR : Memref sig .scVector .vmem S304 .f32 := Memref.whole cc0_scratch2

/-- The coordinates of the tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

end Cert.Proof.K

end
-- ==== Proof.Hist.lean ====
/-
  What a tile computes, as functions of the band of targets it fetched: one scatter-add of sixteen lanes, the 32
  scatter-adds of a row, the 128 rows, and the sum of the four sub-histograms. Over any float values `F`; nothing here
  mentions the machine.
-/
module

public import proofs.«01_k».proof.Proof.Base
public import Idealize.ShloMosaic.Lib.ValueIdx

@[expose] public section

noncomputable section

namespace Cert.Proof.K

open Cert.KernelIdeal Cert.KernelIdeal.Gen
open Idealize.ShloMosaic
open Idealize.ShloMosaic.ValueIdx (ix1 ix2 ix3)

variable {F : FTy → Type} [FloatOps F]

/-- The lane numbers `0 … 15`. -/
def lanes : IVec S16 32 := iota .scVector S16 32 [0] iota_S16_d0_w32_scVector

/-- One masked-in scatter-add of ones at the places `v`, where they are places of the sub-histograms (the machine's
    check); where they are not, nothing. -/
def scat (f : Vec F S1216 .f32) (v : IVec S16 32) : Vec F S1216 .f32 :=
  open Classical in
  if h : k0_chk1 v then storeIdx f ![v] (k0_pay40 (F := F)) (fun _ => 1#1) true h else f

/-- The places sixteen targets `v` are counted at, in the sub-histogram that starts at `off`: target times sixteen,
    plus the lane, plus `off`. -/
def tIdx (off : BitVec 32) (v : Vec F S1x16 .i32) : IVec S16 32 :=
  addi (addi (muli (shapeCast S16 v shapeCasts_S1x16_S16) (broadcast S16 16#32)) lanes) (broadcast S16 off)

/-- Where the sub-histogram of columns `16 j …` starts. -/
def subOff (j : Nat) : BitVec 32 := BitVec.ofNat 32 (304 * (j % 4))

/-- The sixteen targets of row `r` at columns `16 j …`, as the tile loads them. -/
def piece (t : Vec F S128x512 .i32) (r : Fin 128) (j : Fin 32) : Vec F S1x16 .i32 :=
  fun x => t (ix2 r ⟨16 * j.val + (x 1).val, by have h : (x 1).val < 16 := (x 1).isLt; have := j.isLt; omega⟩)

/-- One row: its 32 scatter-adds in order. -/
def rowStep (t : Vec F S128x512 .i32) (r : Fin 128) (f : Vec F S1216 .f32) : Vec F S1216 .f32 :=
  (List.finRange 32).foldl (fun f j => scat f (tIdx (subOff j.val) (piece t r j))) f

/-- The sub-histograms after the first `n` rows, from zero. -/
def histAt (t : Vec F S128x512 .i32) : Nat → Vec F S1216 .f32
  | 0 => fun _ => Scalar.ofBits .f32 0x00000000#32
  | n + 1 => if h : n < 128 then rowStep t ⟨n, h⟩ (histAt t n) else histAt t n

/-- The places sixteen classes count at are places of the sub-histograms. -/
theorem chk_tIdx {off : BitVec 32} (ho : off.toNat ≤ 912) {v : Vec F S1x16 .i32} (hv : ∀ x, (v x : BitVec 32).toNat < 19) :
    k0_chk1 (tIdx off v) := by
  intro a x
  obtain rfl : a = 0 := Subsingleton.elim _ _
  show ((v (Shape.reshapeEquiv shapeCasts_S1x16_S16 x) * 16#32 + lanes x + off : BitVec 32)).toNat < 1216
  have h1 := hv (Shape.reshapeEquiv shapeCasts_S1x16_S16 x)
  have h2 : (lanes x).toNat < 16 := by
    have hx : (x 0).val < 16 := (x 0).isLt
    show (BitVec.ofNat 32 (0 * _ + (x 0).val)).toNat < 16
    rw [BitVec.toNat_ofNat]; omega
  generalize (v (Shape.reshapeEquiv shapeCasts_S1x16_S16 x) : BitVec 32) = w at h1 ⊢
  simp only [BitVec.toNat_add, BitVec.toNat_mul, BitVec.toNat_ofNat]
  omega

/-- The sum of the four sub-histograms, place by place, in the tile's order. -/
def tileOut (h : Vec F S1216 .f32) : Vec F S304 .f32 := fun x =>
  have hx : (x 0).val < 304 := (x 0).isLt
  FloatOps.addf (FloatOps.addf (FloatOps.addf (h (ix1 ⟨(x 0).val, by omega⟩)) (h (ix1 ⟨304 + (x 0).val, by omega⟩)))
    (h (ix1 ⟨608 + (x 0).val, by omega⟩))) (h (ix1 ⟨912 + (x 0).val, by omega⟩))

/-- Tile `w`'s band of the targets: 128 rows of image `w / 4`, from row `128 (w mod 4)`. -/
def bandOf (t : Vec F S8x512x512 .i32) (w : Fin 32) : Vec F S128x512 .i32 := fun x =>
  have hx : (x 0).val < 128 := (x 0).isLt
  t (ix3 ⟨w.val / 4, by have := w.isLt; omega⟩ ⟨128 * (w.val % 4) + (x 0).val, by omega⟩ (x 1))

/-- The partial histograms of the 32 tiles: row `w` is tile `w`'s sum. -/
def parts (t : Vec F S8x512x512 .i32) : Vec F S32x304 .f32 :=
  fun x => tileOut (histAt (bandOf t (x 0)) 128) (ix1 (x 1))

end Cert.Proof.K

end
-- ==== Proof.Row.lean ====
/-
  One row of a tile's band: the 32 loads, checks and scatter-adds of the loop's trip, from the band at `t` (every target
  a class) and the sub-histograms at `f` to the sub-histograms at `rowStep t r f`.
-/
module

public import proofs.«01_k».proof.Proof.Hist

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The tile's thread. -/
abbrev thr : Thread nD τ := V d (cV L) (jV L)

/-- The band scratch and the sub-histograms held whole, as the tile's memrefs address them. -/
abbrev bandPts (t : Vec F S128x512 .i32) : sProp 𝕄 := (sT).view.loc (thr d L) ↦{fullShare} t
abbrev histPts (f : Vec F S1216 .f32) : sProp 𝕄 := (sH).view.loc (thr d L) ↦{fullShare} f

omit [FloatOps F] in
/-- The load of sixteen targets at row `r`, columns `16 j …`, reads that piece of the band. -/
theorem read_piece (t : Vec F S128x512 .i32) (r : Fin 128) (j : Fin 32) {off : Fin 2 → Nat} (ho : off = ![r.val, 16 * j.val])
    (hin : ∀ a, off a + S1x16.size a ≤ S128x512.size a) :
    (sT).view.readAt (Elt F) (Rect.unit (s := S128x512) off S1x16.size hin).toLoadRect t = piece t r j := by
  subst ho
  funext x
  rw [View.readAt_apply]
  show t _ = t _
  congr 1
  funext a
  apply Fin.ext
  match a with
  | 0 =>
    have h : (x 0).val < 1 := (x 0).isLt
    show r.val + 1 * (x 0).val = r.val
    omega
  | 1 =>
    show 16 * j.val + 1 * (x 1).val = 16 * j.val + (x 1).val
    omega

theorem wp_piece {α : Type} {Q : α → sProp 𝕄} (t : Vec F S128x512 .i32) (r : Fin 128) (j : Fin 32) {off : Fin 2 → Nat}
    (ho : off = ![r.val, 16 * j.val]) (hin : ∀ a, off a + S1x16.size a ≤ S128x512.size a)
    {hl : (sT).view.LoadsAt (Rect.unit (s := S128x512) off S1x16.size hin).toLoadRect}
    {k : Vec F S1x16 .i32 → Prog (TpuEff nD τ sig (Elt F) Λ₀ (thr d L).2) α} :
    bandPts d L t ⊢ iprop((bandPts d L t -∗ wp frame (wpE (defs₀ (F := F)) 𝒱₀ (thr d L) none) Set.univ (k (piece t r j)) Q)
      -∗ wp frame (wpE (defs₀ (F := F)) 𝒱₀ (thr d L) none) Set.univ (.op (.load (sT) (Rect.unit (s := S128x512) off S1x16.size hin).toLoadRect hl) k) Q) := by
  rw [← read_piece t r j ho hin]
  exact wp_load 𝒱₀ (thr d L) none Set.univ (m := (sT)) (S := Finset.univ) (Finset.subset_univ _)

theorem wp_scat {α : Type} {Q : α → sProp 𝕄} {f : Vec F S1216 .f32} {v : IVec S16 32} (w : IVec S16 32) (hw : v = w) (hc : k0_chk1 w)
    {h : ∀ a x, ((![v] : Fin 1 → IVec S16 32) a x).toNat < S1216.size a} {hs : ((sH).access (.whole S1216)).Stores Finset.univ}
    {k : PUnit → Prog (TpuEff nD τ sig (Elt F) Λ₀ (thr d L).2) α} :
    histPts d L f ⊢ iprop((histPts d L (scat f w) -∗ wp frame (wpE (defs₀ (F := F)) 𝒱₀ (thr d L) none) Set.univ (k ⟨⟩) Q)
      -∗ wp frame (wpE (defs₀ (F := F)) 𝒱₀ (thr d L) none) Set.univ
          (SparseCore.vectorStoreIdx (sH) ![v] (k0_pay40 (F := F)) (fun _ => 1#1) true h hs >>= k) Q) := by
  subst hw
  have e : scat f v = ((sH).access (.whole S1216)).write (Elt F) f
      (storeIdx (((sH).access (.whole S1216)).read (Elt F) f) ![v] (k0_pay40 (F := F)) (fun _ => 1#1) true h) Finset.univ := by
    unfold scat; rw [dif_pos hc]
    exact (Memref.write_access_whole_univ (Elt F) (cc0_scratch1 : Ref sig .scVector) f _).symm ▸
      congrArg (fun g => storeIdx g ![v] (k0_pay40 (F := F)) (fun _ => 1#1) true h) (Memref.read_access_whole (Elt F) (cc0_scratch1 : Ref sig .scVector) f).symm
  have hset : ((sH).access (.whole S1216)).set = Finset.univ := Memref.set_access_whole (cc0_scratch1 : Ref sig .scVector)
  have := SparseCore.wp_vectorStoreIdx (defs := defs₀ (F := F)) 𝒱₀ (thr d L) none Set.univ (Q := Q) (base := (sH)) (idxs := ![v])
    (v := k0_pay40 (F := F)) (mask := fun _ => 1#1) (add := true) (h := h) (hs := hs) (k := k) (f := f)
  rw [hset, ← e] at this
  exact this

theorem wp_chk {α : Type} {Q : α → sProp 𝕄} {P : Prop} {dec : Decidable P} (h : P)
    {k : PLift P → Prog (TpuEff nD τ sig (Elt F) Λ₀ (thr d L).2) α} :
    wp frame (wpE (defs₀ (F := F)) 𝒱₀ (thr d L) none) Set.univ (k ⟨h⟩) Q
      ⊢ wp frame (wpE (defs₀ (F := F)) 𝒱₀ (thr d L) none) Set.univ (.op (.assume P dec) k) Q :=
  Entails.of_eq (wp_assume_of 𝒱₀ (thr d L) none Set.univ h).symm

/-- The row the loop's trip `k` counts. -/
def rowOf (k : Fin k0_t1_loop.trips) : Fin 128 := ⟨k.val, k.isLt.trans_eq (by decide)⟩

/-- One trip: from the sub-histograms at `f` to the same with row `k` counted. -/
theorem row_trip (t : Vec F S128x512 .i32) (hchk : ∀ (r : Fin 128) (j : Fin 32), k0_chk1 (tIdx (subOff j.val) (piece t r j)))
    (v30 : FVec F S16 .f32) (k : Fin k0_t1_loop.trips) (f : Vec F S1216 .f32) :
    iprop(bandPts d L t ∗ histPts d L f) ⊢ wp frame (wpE (defs₀ (F := F)) 𝒱₀ (thr d L) none) Set.univ
      (k0_t1_body (F := F) L tV (Memref.isWhole_whole _) pV (Memref.isWhole_whole _) sT (Memref.isWhole_whole _) sH (Memref.isWhole_whole _) sR (Memref.isWhole_whole _)
        cc0_scoped0 cc0_scoped1 v30 lanes k ()) fun _ => iprop(bandPts d L t ∗ histPts d L (rowStep t (rowOf k) f)) := by
  unfold k0_t1_body
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, Prog.bind_assoc]
  iintro ⟨HT, HH⟩
  iapply wp_piece d L t (rowOf k) 0 (k0_off2_eq k) $$ HT
  iintro HT
  iapply wp_chk d L (show k0_chk1 _ from hchk (rowOf k) 0)
  iapply wp_scat d L _ rfl (hchk (rowOf k) 0) $$ HH
  iintro HH
  iapply wp_piece d L t (rowOf k) 1 (k0_off3_eq k) $$ HT
  iintro HT
  iapply wp_chk d L (show k0_chk2 _ from hchk (rowOf k) 1)
  iapply wp_scat d L _ rfl (hchk (rowOf k) 1) $$ HH
  iintro HH
  iapply wp_piece d L t (rowOf k) 2 (k0_off4_eq k) $$ HT
  iintro HT
  iapply wp_chk d L (show k0_chk3 _ from hchk (rowOf k) 2)
  iapply wp_scat d L _ rfl (hchk (rowOf k) 2) $$ HH
  iintro HH
  iapply wp_piece d L t (rowOf k) 3 (k0_off5_eq k) $$ HT
  iintro HT
  iapply wp_chk d L (show k0_chk4 _ from hchk (rowOf k) 3)
  iapply wp_scat d L _ rfl (hchk (rowOf k) 3) $$ HH
  iintro HH
  iapply wp_piece d L t (rowOf k) 4 (k0_off6_eq k) $$ HT
  iintro HT
  iapply wp_chk d L (show k0_chk5 _ from hchk (rowOf k) 4)
  iapply wp_scat d L _ rfl (hchk (rowOf k) 4) $$ HH
  iintro HH
  iapply wp_piece d L t (rowOf k) 5 (k0_off7_eq k) $$ HT
  iintro HT
  iapply wp_chk d L (show k0_chk6 _ from hchk (rowOf k) 5)
  iapply wp_scat d L _ rfl (hchk (rowOf k) 5) $$ HH
  iintro HH
  iapply wp_piece d L t (rowOf k) 6 (k0_off8_eq k) $$ HT
  iintro HT
  iapply wp_chk d L (show k0_chk7 _ from hchk (rowOf k) 6)
  iapply wp_scat d L _ rfl (hchk (rowOf k) 6) $$ HH
  iintro HH
  iapply wp_piece d L t (rowOf k) 7 (k0_off9_eq k) $$ HT
  iintro HT
  iapply wp_chk d L (show k0_chk8 _ from hchk (rowOf k) 7)
  iapply wp_scat d L _ rfl (hchk (rowOf k) 7) $$ HH
  iintro HH
  iapply wp_piece d L t (rowOf k) 8 (k0_off10_eq k) $$ HT
  iintro HT
  iapply wp_chk d L (show k0_chk9 _ from hchk (rowOf k) 8)
  iapply wp_scat d L _ rfl (hchk (rowOf k) 8) $$ HH
  iintro HH
  iapply wp_piece d L t (rowOf k) 9 (k0_off11_eq k) $$ HT
  iintro HT
  iapply wp_chk d L (show k0_chk10 _ from hchk (rowOf k) 9)
  iapply wp_scat d L _ rfl (hchk (rowOf k) 9) $$ HH
  iintro HH
  iapply wp_piece d L t (rowOf k) 10 (k0_off12_eq k) $$ HT
  iintro HT
  iapply wp_chk d L (show k0_chk11 _ from hchk (rowOf k) 10)
  iapply wp_scat d L _ rfl (hchk (rowOf k) 10) $$ HH
  iintro HH
  iapply wp_piece d L t (rowOf k) 11 (k0_off13_eq k) $$ HT
  iintro HT
  iapply wp_chk d L (show k0_chk12 _ from hchk (rowOf k) 11)
  iapply wp_scat d L _ rfl (hchk (rowOf k) 11) $$ HH
  iintro HH
  iapply wp_piece d L t (rowOf k) 12 (k0_off14_eq k) $$ HT
  iintro HT
  iapply wp_chk d L (show k0_chk13 _ from hchk (rowOf k) 12)
  iapply wp_scat d L _ rfl (hchk (rowOf k) 12) $$ HH
  iintro HH
  iapply wp_piece d L t (rowOf k) 13 (k0_off15_eq k) $$ HT
  iintro HT
  iapply wp_chk d L (show k0_chk14 _ from hchk (rowOf k) 13)
  iapply wp_scat d L _ rfl (hchk (rowOf k) 13) $$ HH
  iintro HH
  iapply wp_piece d L t (rowOf k) 14 (k0_off16_eq k) $$ HT
  iintro HT
  iapply wp_chk d L (show k0_chk15 _ from hchk (rowOf k) 14)
  iapply wp_scat d L _ rfl (hchk (rowOf k) 14) $$ HH
  iintro HH
  iapply wp_piece d L t (rowOf k) 15 (k0_off17_eq k) $$ HT
  iintro HT
  iapply wp_chk d L (show k0_chk16 _ from hchk (rowOf k) 15)
  iapply wp_scat d L _ rfl (hchk (rowOf k) 15) $$ HH
  iintro HH
  iapply wp_piece d L t (rowOf k) 16 (k0_off18_eq k) $$ HT
  iintro HT
  iapply wp_chk d L (show k0_chk17 _ from hchk (rowOf k) 16)
  iapply wp_scat d L _ rfl (hchk (rowOf k) 16) $$ HH
  iintro HH
  iapply wp_piece d L t (rowOf k) 17 (k0_off19_eq k) $$ HT
  iintro HT
  iapply wp_chk d L (show k0_chk18 _ from hchk (rowOf k) 17)
  iapply wp_scat d L _ rfl (hchk (rowOf k) 17) $$ HH
  iintro HH
  iapply wp_piece d L t (rowOf k) 18 (k0_off20_eq k) $$ HT
  iintro HT
  iapply wp_chk d L (show k0_chk19 _ from hchk (rowOf k) 18)
  iapply wp_scat d L _ rfl (hchk (rowOf k) 18) $$ HH
  iintro HH
  iapply wp_piece d L t (rowOf k) 19 (k0_off21_eq k) $$ HT
  iintro HT
  iapply wp_chk d L (show k0_chk20 _ from hchk (rowOf k) 19)
  iapply wp_scat d L _ rfl (hchk (rowOf k) 19) $$ HH
  iintro HH
  iapply wp_piece d L t (rowOf k) 20 (k0_off22_eq k) $$ HT
  iintro HT
  iapply wp_chk d L (show k0_chk21 _ from hchk (rowOf k) 20)
  iapply wp_scat d L _ rfl (hchk (rowOf k) 20) $$ HH
  iintro HH
  iapply wp_piece d L t (rowOf k) 21 (k0_off23_eq k) $$ HT
  iintro HT
  iapply wp_chk d L (show k0_chk22 _ from hchk (rowOf k) 21)
  iapply wp_scat d L _ rfl (hchk (rowOf k) 21) $$ HH
  iintro HH
  iapply wp_piece d L t (rowOf k) 22 (k0_off24_eq k) $$ HT
  iintro HT
  iapply wp_chk d L (show k0_chk23 _ from hchk (rowOf k) 22)
  iapply wp_scat d L _ rfl (hchk (rowOf k) 22) $$ HH
  iintro HH
  iapply wp_piece d L t (rowOf k) 23 (k0_off25_eq k) $$ HT
  iintro HT
  iapply wp_chk d L (show k0_chk24 _ from hchk (rowOf k) 23)
  iapply wp_scat d L _ rfl (hchk (rowOf k) 23) $$ HH
  iintro HH
  iapply wp_piece d L t (rowOf k) 24 (k0_off26_eq k) $$ HT
  iintro HT
  iapply wp_chk d L (show k0_chk25 _ from hchk (rowOf k) 24)
  iapply wp_scat d L _ rfl (hchk (rowOf k) 24) $$ HH
  iintro HH
  iapply wp_piece d L t (rowOf k) 25 (k0_off27_eq k) $$ HT
  iintro HT
  iapply wp_chk d L (show k0_chk26 _ from hchk (rowOf k) 25)
  iapply wp_scat d L _ rfl (hchk (rowOf k) 25) $$ HH
  iintro HH
  iapply wp_piece d L t (rowOf k) 26 (k0_off28_eq k) $$ HT
  iintro HT
  iapply wp_chk d L (show k0_chk27 _ from hchk (rowOf k) 26)
  iapply wp_scat d L _ rfl (hchk (rowOf k) 26) $$ HH
  iintro HH
  iapply wp_piece d L t (rowOf k) 27 (k0_off29_eq k) $$ HT
  iintro HT
  iapply wp_chk d L (show k0_chk28 _ from hchk (rowOf k) 27)
  iapply wp_scat d L _ rfl (hchk (rowOf k) 27) $$ HH
  iintro HH
  iapply wp_piece d L t (rowOf k) 28 (k0_off30_eq k) $$ HT
  iintro HT
  iapply wp_chk d L (show k0_chk29 _ from hchk (rowOf k) 28)
  iapply wp_scat d L _ rfl (hchk (rowOf k) 28) $$ HH
  iintro HH
  iapply wp_piece d L t (rowOf k) 29 (k0_off31_eq k) $$ HT
  iintro HT
  iapply wp_chk d L (show k0_chk30 _ from hchk (rowOf k) 29)
  iapply wp_scat d L _ rfl (hchk (rowOf k) 29) $$ HH
  iintro HH
  iapply wp_piece d L t (rowOf k) 30 (k0_off32_eq k) $$ HT
  iintro HT
  iapply wp_chk d L (show k0_chk31 _ from hchk (rowOf k) 30)
  iapply wp_scat d L _ rfl (hchk (rowOf k) 30) $$ HH
  iintro HH
  iapply wp_piece d L t (rowOf k) 31 (k0_off33_eq k) $$ HT
  iintro HT
  iapply wp_chk d L (show k0_chk32 _ from hchk (rowOf k) 31)
  iapply wp_scat d L _ rfl (hchk (rowOf k) 31) $$ HH
  iintro HH
  rw [wp_ret]
  imodintro
  isplitl [HT]; · iexact HT
  iexact HH

end Cert.Proof.K

end
-- ==== Proof.Body.lean ====
/-
  Loads and stores of sixteen places of a tile's two scratch vectors: filling a vector from a fixed one sixteen places at a
  time, which is how the body zeroes its sub-histograms and how it writes their sum.
-/
module

public import proofs.«01_k».proof.Proof.Row

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Filling a vector sixteen places at a time -/

/-- `f` with its first `n` places replaced by those of `g`. -/
def upTo {N : Nat} (n : Nat) (g f : Vec F ⟨1, ![N]⟩ .f32) : Vec F ⟨1, ![N]⟩ .f32 := fun x => if (x 0).val < n then g x else f x

omit [FloatOps F] in
theorem upTo_zero {N : Nat} (g f : Vec F ⟨1, ![N]⟩ .f32) : upTo 0 g f = f := by
  funext x; unfold upTo; rw [if_neg (Nat.not_lt_zero _)]
omit [FloatOps F] in
theorem upTo_all {N : Nat} (g f : Vec F ⟨1, ![N]⟩ .f32) : upTo N g f = g := by
  funext x; exact if_pos (x 0).isLt

/-- The sixteen places of `h` from `n`. -/
def slot {N : Nat} (h : Vec F ⟨1, ![N]⟩ .f32) (n : Nat) (hn : n + 16 ≤ N) : Vec F S16 .f32 := fun x =>
  have hx : (x 0).val < 16 := (x 0).isLt
  h (ix1 ⟨n + (x 0).val, by omega⟩)

variable (d : Dev nD) (L : grid0.Coords)

/-- The sum scratch held whole. -/
abbrev sumPts (f : Vec F S304 .f32) : sProp 𝕄 := (sR).view.loc (thr d L) ↦{fullShare} f

omit [FloatOps F] in
theorem read_slot_H (h : Vec F S1216 .f32) (n : Nat) (hn : n + 16 ≤ 1216) (hin : ∀ a, (![n] : Fin 1 → Nat) a + S16.size a ≤ S1216.size a) :
    (sH).view.readAt (Elt F) (Rect.unit (s := S1216) ![n] S16.size hin).toLoadRect h = slot h n hn := by
  funext x
  rw [View.readAt_apply]
  show h _ = h _
  congr 1
  funext (a : Fin 1)
  obtain rfl : a = 0 := Subsingleton.elim _ _
  apply Fin.ext
  show n + 1 * (x 0).val = n + (x 0).val
  omega

theorem wp_ldH {α : Type} {Q : α → sProp 𝕄} {f : Vec F S1216 .f32} {n : Nat} (hn : n + 16 ≤ 1216) {hin : ∀ a, (![n] : Fin 1 → Nat) a + S16.size a ≤ S1216.size a}
    {hl : (sH).view.LoadsAt (Rect.unit (s := S1216) ![n] S16.size hin).toLoadRect} {k : Vec F S16 .f32 → Prog (TpuEff nD τ sig (Elt F) Λ₀ (thr d L).2) α} :
    histPts d L f ⊢ iprop((histPts d L f -∗ wp frame (wpE (defs₀ (F := F)) 𝒱₀ (thr d L) none) Set.univ (k (slot f n hn)) Q)
      -∗ wp frame (wpE (defs₀ (F := F)) 𝒱₀ (thr d L) none) Set.univ (.op (.load (sH) (Rect.unit (s := S1216) ![n] S16.size hin).toLoadRect hl) k) Q) := by
  rw [← read_slot_H f n hn hin]
  exact wp_load 𝒱₀ (thr d L) none Set.univ (m := (sH)) (S := Finset.univ) (Finset.subset_univ _)

omit [FloatOps F] in
theorem write_slot_H (g f : Vec F S1216 .f32) (n : Nat) (hn : n + 16 ≤ 1216) (hin : ∀ a, (![n] : Fin 1 → Nat) a + S16.size a ≤ S1216.size a) :
    (((sH).access (Rect.unit (s := S1216) ![n] S16.size hin)).write (Elt F) (upTo n g f) (slot g n hn) Finset.univ : Vec F S1216 .f32) = upTo (n + 16) g f := by
  funext x
  by_cases hx : n ≤ (x 0).val ∧ (x 0).val < n + 16
  · have e : x = ((sH).access (Rect.unit (s := S1216) ![n] S16.size hin)).emb (ix1 ⟨(x 0).val - n, by omega⟩) := by
      funext (a : Fin 1)
      obtain rfl : a = 0 := Subsingleton.elim _ _
      apply Fin.ext
      show (x 0).val = n + 1 * ((x 0).val - n)
      omega
    refine ((congrArg _ e).trans (View.write_emb_of_mem _ _ (Finset.mem_univ _))).trans ?_
    refine Eq.trans ?_ (if_pos hx.2).symm
    show g _ = g _
    congr 1
    funext (a : Fin 1)
    obtain rfl : a = 0 := Subsingleton.elim _ _
    apply Fin.ext
    show n + ((x 0).val - n) = (x 0).val
    omega
  · refine (View.write_of_not_mem _ _ _ ?_).trans ?_
    · intro hm
      obtain ⟨y, -, hy⟩ := Finset.mem_map.mp hm
      have h0 : n + 1 * (y 0).val = (x 0).val := congrArg Fin.val (congrFun hy (0 : Fin 1))
      have hy0 : (y 0).val < 16 := (y 0).isLt
      omega
    · show (if (x 0).val < n then _ else _) = (if (x 0).val < n + 16 then _ else _)
      by_cases h1 : (x 0).val < n
      · rw [if_pos h1, if_pos (by omega)]
      · rw [if_neg h1, if_neg (by omega)]

/-- A store of `g`'s sixteen places from `n`, where the first `n` hold `g`'s already. -/
theorem wp_stH {α : Type} {Q : α → sProp 𝕄} (g : Vec F S1216 .f32) {f : Vec F S1216 .f32} {n : Nat} (hn : n + 16 ≤ 1216) {w : Vec F S16 .f32} (hw : w = slot g n hn)
    {hin : ∀ a, (![n] : Fin 1 → Nat) a + S16.size a ≤ S1216.size a} {hs : ((sH).access (Rect.unit (s := S1216) ![n] S16.size hin)).Stores Finset.univ}
    {hm} {k : PUnit → Prog (TpuEff nD τ sig (Elt F) Λ₀ (thr d L).2) α} :
    histPts d L (upTo n g f) ⊢ iprop((histPts d L (upTo (n + 16) g f) -∗ wp frame (wpE (defs₀ (F := F)) 𝒱₀ (thr d L) none) Set.univ (k ⟨⟩) Q)
      -∗ wp frame (wpE (defs₀ (F := F)) 𝒱₀ (thr d L) none) Set.univ (.op (.store (sH) (Rect.unit (s := S1216) ![n] S16.size hin) w Finset.univ hs hm) k) Q) := by
  subst hw
  rw [← write_slot_H g f n hn hin]
  exact wp_store (defs := defs₀ (F := F)) 𝒱₀ (thr d L) none Set.univ (m := (sH)) (r := Rect.unit (s := S1216) ![n] S16.size hin) (Mk := Finset.univ) (S := Finset.univ)
    (w := slot g n hn) (f := upTo n g f) (hx := hs) (hm := hm) (k := k) (Finset.subset_univ _)

omit [FloatOps F] in
theorem read_slot_R (h : Vec F S304 .f32) (n : Nat) (hn : n + 16 ≤ 304) (hin : ∀ a, (![n] : Fin 1 → Nat) a + S16.size a ≤ S304.size a) :
    (sR).view.readAt (Elt F) (Rect.unit (s := S304) ![n] S16.size hin).toLoadRect h = slot h n hn := by
  funext x
  rw [View.readAt_apply]
  show h _ = h _
  congr 1
  funext (a : Fin 1)
  obtain rfl : a = 0 := Subsingleton.elim _ _
  apply Fin.ext
  show n + 1 * (x 0).val = n + (x 0).val
  omega

theorem wp_ldR {α : Type} {Q : α → sProp 𝕄} {f : Vec F S304 .f32} {n : Nat} (hn : n + 16 ≤ 304) {hin : ∀ a, (![n] : Fin 1 → Nat) a + S16.size a ≤ S304.size a}
    {hl : (sR).view.LoadsAt (Rect.unit (s := S304) ![n] S16.size hin).toLoadRect} {k : Vec F S16 .f32 → Prog (TpuEff nD τ sig (Elt F) Λ₀ (thr d L).2) α} :
    sumPts d L f ⊢ iprop((sumPts d L f -∗ wp frame (wpE (defs₀ (F := F)) 𝒱₀ (thr d L) none) Set.univ (k (slot f n hn)) Q)
      -∗ wp frame (wpE (defs₀ (F := F)) 𝒱₀ (thr d L) none) Set.univ (.op (.load (sR) (Rect.unit (s := S304) ![n] S16.size hin).toLoadRect hl) k) Q) := by
  rw [← read_slot_R f n hn hin]
  exact wp_load 𝒱₀ (thr d L) none Set.univ (m := (sR)) (S := Finset.univ) (Finset.subset_univ _)

omit [FloatOps F] in
theorem write_slot_R (g f : Vec F S304 .f32) (n : Nat) (hn : n + 16 ≤ 304) (hin : ∀ a, (![n] : Fin 1 → Nat) a + S16.size a ≤ S304.size a) :
    (((sR).access (Rect.unit (s := S304) ![n] S16.size hin)).write (Elt F) (upTo n g f) (slot g n hn) Finset.univ : Vec F S304 .f32) = upTo (n + 16) g f := by
  funext x
  by_cases hx : n ≤ (x 0).val ∧ (x 0).val < n + 16
  · have e : x = ((sR).access (Rect.unit (s := S304) ![n] S16.size hin)).emb (ix1 ⟨(x 0).val - n, by omega⟩) := by
      funext (a : Fin 1)
      obtain rfl : a = 0 := Subsingleton.elim _ _
      apply Fin.ext
      show (x 0).val = n + 1 * ((x 0).val - n)
      omega
    refine ((congrArg _ e).trans (View.write_emb_of_mem _ _ (Finset.mem_univ _))).trans ?_
    refine Eq.trans ?_ (if_pos hx.2).symm
    show g _ = g _
    congr 1
    funext (a : Fin 1)
    obtain rfl : a = 0 := Subsingleton.elim _ _
    apply Fin.ext
    show n + ((x 0).val - n) = (x 0).val
    omega
  · refine (View.write_of_not_mem _ _ _ ?_).trans ?_
    · intro hm
      obtain ⟨y, -, hy⟩ := Finset.mem_map.mp hm
      have h0 : n + 1 * (y 0).val = (x 0).val := congrArg Fin.val (congrFun hy (0 : Fin 1))
      have hy0 : (y 0).val < 16 := (y 0).isLt
      omega
    · show (if (x 0).val < n then _ else _) = (if (x 0).val < n + 16 then _ else _)
      by_cases h1 : (x 0).val < n
      · rw [if_pos h1, if_pos (by omega)]
      · rw [if_neg h1, if_neg (by omega)]

/-- A store of `g`'s sixteen places from `n`, where the first `n` hold `g`'s already. -/
theorem wp_stR {α : Type} {Q : α → sProp 𝕄} (g : Vec F S304 .f32) {f : Vec F S304 .f32} {n : Nat} (hn : n + 16 ≤ 304) {w : Vec F S16 .f32} (hw : w = slot g n hn)
    {hin : ∀ a, (![n] : Fin 1 → Nat) a + S16.size a ≤ S304.size a} {hs : ((sR).access (Rect.unit (s := S304) ![n] S16.size hin)).Stores Finset.univ}
    {hm} {k : PUnit → Prog (TpuEff nD τ sig (Elt F) Λ₀ (thr d L).2) α} :
    sumPts d L (upTo n g f) ⊢ iprop((sumPts d L (upTo (n + 16) g f) -∗ wp frame (wpE (defs₀ (F := F)) 𝒱₀ (thr d L) none) Set.univ (k ⟨⟩) Q)
      -∗ wp frame (wpE (defs₀ (F := F)) 𝒱₀ (thr d L) none) Set.univ (.op (.store (sR) (Rect.unit (s := S304) ![n] S16.size hin) w Finset.univ hs hm) k) Q) := by
  subst hw
  rw [← write_slot_R g f n hn hin]
  exact wp_store (defs := defs₀ (F := F)) 𝒱₀ (thr d L) none Set.univ (m := (sR)) (r := Rect.unit (s := S304) ![n] S16.size hin) (Mk := Finset.univ) (S := Finset.univ)
    (w := slot g n hn) (f := upTo n g f) (hx := hs) (hm := hm) (k := k) (Finset.subset_univ _)

end Cert.Proof.K

end
-- ==== Proof.TileRun.lean ====
/-
  The tile's body, run once at a symbolic tile and over any float values: fetch its band, zero the four sub-histograms,
  count 128 rows, sum the four, write its row of the partial histograms.
-/
module

public import proofs.«01_k».proof.Proof.Body
public import Idealize.ShloMosaic.Lib.ValueLayout

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-- The tile's row of the partial histograms, as it writes it. -/
abbrev pRow : Memref sig .scVector .hbm S304 .f32 :=
  ((pV).slice (Rect.unit (s := S32x304) (k0_off34 L) S1x304.size (k0_off34_inb L)) (fun _ => rfl)).squeeze S304 squeezes_S1x304_S304

/-- The tile's band of the targets, as it fetches it. -/
abbrev tBand : Memref sig .scVector .hbm S128x512 .i32 :=
  ((tV).slice (Rect.unit (s := S8x512x512) (k0_off1 L) S1x128x512.size (k0_off1_inb L)) (fun _ => rfl)).squeeze S128x512 squeezes_S1x128x512_S128x512

/-- The tile's number. -/
def wid (L : grid0.Coords) : Fin 32 := ⟨2 * (L 1).val + (L 0).val, by
  have h0 : (L 0).val < 2 := (L 0).isLt
  have h1 : (L 1).val < 16 := (L 1).isLt
  omega⟩
theorem coords_eq (L : grid0.Coords) : L = coordsV (L 0) (L 1) := by
  funext a
  match a with
  | 0 => rfl
  | 1 => rfl
theorem off1_eq (L : grid0.Coords) : k0_off1 L = ![(wid L).val / 4, 128 * ((wid L).val % 4), 0] := by
  have : ∀ c : Fin (grid0.bound 0), ∀ s : Fin (grid0.bound 1), k0_off1 (coordsV c s) = ![(wid (coordsV c s)).val / 4, 128 * ((wid (coordsV c s)).val % 4), 0] := by decide +kernel
  rw [coords_eq L]; exact this _ _
theorem off34_eq (L : grid0.Coords) : k0_off34 L = ![(wid L).val, 0] := by
  have : ∀ c : Fin (grid0.bound 0), ∀ s : Fin (grid0.bound 1), k0_off34 (coordsV c s) = ![(wid (coordsV c s)).val, 0] := by decide +kernel
  rw [coords_eq L]; exact this _ _

/-- What the fetch reads is the tile's band. -/
theorem band_read (t : Vec F S8x512x512 .i32) : (tBand L).view.read (Elt F) t = bandOf t (wid L) := by
  funext x
  show t _ = t _
  congr 1
  funext (a : Fin 3)
  apply Fin.ext
  have e : ∀ a : Fin 3, ((tBand L).view.emb x a).val = k0_off1 L a + 1 * (Shape.reshapeEquiv squeezes_S1x128x512_S128x512.numel_eq x a).val := fun _ => rfl
  refine (e a).trans ?_
  have e2 : Shape.reshapeEquiv squeezes_S1x128x512_S128x512.numel_eq x = ix3 (0 : Fin 1) (x 0) (x 1) := by
    conv_lhs => rw [ValueIdx.eq_ix2 x]
    exact ValueIdx.reshapeEquiv_ix2_1ab _ _ _
  rw [off1_eq, e2]
  match a with
  | 0 => show (wid L).val / 4 + 1 * 0 = (wid L).val / 4; omega
  | 1 => show 128 * ((wid L).val % 4) + 1 * (x 0).val = 128 * ((wid L).val % 4) + (x 0).val; omega
  | 2 => show 0 + 1 * (x 1).val = (x 1).val; omega
/-- A place matched with a row of one: row `0`, that place. -/
theorem reshape_ix1 {n : Nat} (h : (⟨1, ![n]⟩ : Shape).numel = (⟨2, ![1, n]⟩ : Shape).numel) (i : Fin n) :
    Shape.reshapeEquiv h (ix1 i) = ix2 (⟨0, Nat.one_pos⟩ : Fin 1) i :=
  Shape.reshapeEquiv_eq_of_rowMajor h (by
    rw [Shape.rowMajor_val_two, Shape.rowMajor_val_one]
    show 0 * n + i.val = i.val
    omega)

theorem pRow_emb (y : S304.Idx) : (pRow L).view.emb y = ix2 (wid L) (y 0) := by
  funext (a : Fin 2)
  apply Fin.ext
  have e : ∀ a : Fin 2, ((pRow L).view.emb y a).val = k0_off34 L a + 1 * (Shape.reshapeEquiv squeezes_S1x304_S304.numel_eq y a).val := fun _ => rfl
  refine (e a).trans ?_
  have e2 : Shape.reshapeEquiv squeezes_S1x304_S304.numel_eq y = ix2 (0 : Fin 1) (y 0) := by
    conv_lhs => rw [ValueIdx.eq_ix1 y]
    exact reshape_ix1 _ _
  rw [off34_eq, e2]
  match a with
  | 0 => show (wid L).val + 1 * 0 = (wid L).val; omega
  | 1 => show 0 + 1 * (y 0).val = (y 0).val; omega

theorem wp_fetch {α : Type} {Q : α → sProp 𝕄} {q : PosShare TreeShare} {t : Vec F S8x512x512 .i32} {O : CellTallies nD τ sig (HIx 1)} {W : Waits sig (HIx 1)}
   {a : Vec F S128x512 .i32} {k : PUnit → Prog (TpuEff nD τ sig (Elt F) Λ₀ (thr d L).2) α} {h1 h2 h3 h4 h5} :
    iprop(Transfers.MayWaits (thr d L) (none : HIx 1) O ∗ ((tV).view.loc (thr d L) ↦{q} t) ∗ bandPts d L a ∗ semVal (thr d L, SemLoc.dma cc0_scoped0.sem) 0 ∗ owes (thr d L) O W)
     ⊢ iprop((iprop(Transfers.MayWaits (thr d L) (none : HIx 1) O ∗ ((tV).view.loc (thr d L) ↦{q} t) ∗ bandPts d L (bandOf t (wid L)) ∗ semVal (thr d L, SemLoc.dma cc0_scoped0.sem) 0
         ∗ owes (thr d L) O (insert (SemLoc.dma cc0_scoped0.sem, none) W))
       -∗ wp frame (wpE (defs₀ (F := F)) 𝒱₀ (thr d L) none) Set.univ (k ⟨⟩) Q) -∗
      wp frame (wpE (defs₀ (F := F)) 𝒱₀ (thr d L) none) Set.univ
      (.op (.enqueueDma (tBand L) (.here sT) (.dma cc0_scoped0.sem) h1 h2 h3) fun _ => .op (.waitDma2 cc0_scoped0.sem (tBand L) sT h4 h5) k) Q) := by
  iintro ⟨Hmw, Ht, HT, Hs0, HO⟩ Hk
  sl_exec
  iapply Hk $$ [Hmw Ht HT Hs0 HO]
  isplitl [Hmw]; · iexact Hmw
  isplitl [Ht]; · iexact Ht
  isplitl [HT]
  · rw [← band_read]
    have e : View.write (Elt F) (sT).view a ((tBand L).view.read (Elt F) t) Finset.univ = (tBand L).view.read (Elt F) t :=
      View.write_whole_univ _ _ _
    iapply (Entails.of_eq (congrArg (fun g => bandPts d L g) e)); iexact HT
  isplitl [Hs0]; · iexact Hs0
  iexact HO

theorem wp_writeout {α : Type} {Q : α → sProp 𝕄} {t : Vec F S8x512x512 .i32} {O : CellTallies nD τ sig (HIx 1)} {W : Waits sig (HIx 1)}
   {f : Vec F S32x304 .f32} {k : PUnit → Prog (TpuEff nD τ sig (Elt F) Λ₀ (thr d L).2) α} {h1 h2 h3 h4 h5} :
    iprop(Transfers.MayWaits (thr d L) (none : HIx 1) O ∗ ((pRow L).view.loc (thr d L) ↦[(pRow L).view.set]{fullShare} f)
        ∗ sumPts d L (tileOut (histAt (bandOf t (wid L)) 128)) ∗ semVal (thr d L, SemLoc.dma cc0_scoped1.sem) 0 ∗ owes (thr d L) O W)
     ⊢ iprop((iprop(((pRow L).view.loc (thr d L) ↦[(pRow L).view.set]{fullShare} parts t)
        ∗ sumPts d L (tileOut (histAt (bandOf t (wid L)) 128)) ∗ semVal (thr d L, SemLoc.dma cc0_scoped1.sem) 0
         ∗ owes (thr d L) O (insert (SemLoc.dma cc0_scoped1.sem, none) W))
       -∗ wp frame (wpE (defs₀ (F := F)) 𝒱₀ (thr d L) none) Set.univ (k ⟨⟩) Q) -∗
      wp frame (wpE (defs₀ (F := F)) 𝒱₀ (thr d L) none) Set.univ
      (.op (.enqueueDma sR (.here (pRow L)) (.dma cc0_scoped1.sem) h1 h2 h3) fun _ => .op (.waitDma2 cc0_scoped1.sem sR (pRow L) h4 h5) k) Q) := by
  iintro ⟨Hmw, Hp, HR, Hs1, HO⟩ Hk
  sl_exec
  have e : ∀ i ∈ (pRow L).view.set, (pRow L).view.writes (Elt F) f [⟨Rect.whole S304, tileOut (histAt (bandOf t (wid L)) 128)⟩] i = parts t i := by
    intro i hi
    obtain ⟨y, -, rfl⟩ := Finset.mem_map.mp hi
    refine (congrFun (View.read_writes_whole (pRow L).view f (tileOut (histAt (bandOf t (wid L)) 128))) y).trans ?_
    rw [pRow_emb]
    show _ = tileOut (histAt (bandOf t (wid L)) 128) (ix1 (y 0))
    exact congrArg _ (ValueIdx.eq_ix1 y)
  iapply Hk $$ [Hp HR Hs1 HO]
  isplitl [Hp]
  · iapply (Entails.of_eq (pointsTo_congr e)); iexact Hp
  isplitl [HR]; · iexact HR
  isplitl [Hs1]; · iexact Hs1
  iexact HO

/-- The vector of zeros the sub-histograms start from. -/
abbrev zeros : Vec F S1216 .f32 := fun _ => Scalar.ofBits .f32 0x00000000#32

/-! ## The sub-histograms zeroed, part by part -/

theorem wp_zero9 {α : Type} {Q : α → sProp 𝕄} {q : PosShare TreeShare} {t : Vec F S8x512x512 .i32} {O : CellTallies nD τ sig (HIx 1)} {W : Waits sig (HIx 1)}
   {a : Vec F S128x512 .i32} {b : Vec F S1216 .f32} {k : FVec F S16 .f32 → Prog (TpuEff nD τ sig (Elt F) Λ₀ (thr d L).2) α} :
    iprop(Transfers.MayWaits (thr d L) (none : HIx 1) O ∗ ((tV).view.loc (thr d L) ↦{q} t) ∗ bandPts d L a ∗ semVal (thr d L, SemLoc.dma cc0_scoped0.sem) 0 ∗ owes (thr d L) O W
        ∗ histPts d L b)
     ⊢ iprop((iprop(Transfers.MayWaits (thr d L) (none : HIx 1) O ∗ ((tV).view.loc (thr d L) ↦{q} t) ∗ bandPts d L (bandOf t (wid L)) ∗ semVal (thr d L, SemLoc.dma cc0_scoped0.sem) 0
         ∗ owes (thr d L) O (insert (SemLoc.dma cc0_scoped0.sem, none) W) ∗ histPts d L (upTo 304 (zeros (F := F)) b))
       -∗ wp frame (wpE (defs₀ (F := F)) 𝒱₀ (thr d L) none) Set.univ (k k0_pay39) Q) -∗
      wp frame (wpE (defs₀ (F := F)) 𝒱₀ (thr d L) none) Set.univ (k0_part8 (F := F) L tV (Memref.isWhole_whole _) pV (Memref.isWhole_whole _) sT (Memref.isWhole_whole _) sH (Memref.isWhole_whole _) sR (Memref.isWhole_whole _) cc0_scoped0 cc0_scoped1 >>= fun _ => k0_part9 (F := F) L tV (Memref.isWhole_whole _) pV (Memref.isWhole_whole _) sT (Memref.isWhole_whole _) sH (Memref.isWhole_whole _) sR (Memref.isWhole_whole _) cc0_scoped0 cc0_scoped1 >>= k) Q) := by
  rw [k0_part8_eq_skeleton, k0_part9_eq_skeleton]; unfold k0_part8_skel k0_part9_skel
  simp only [Prog.lift, Prog.bind_op, Prog.bind_ret, Prog.pure_eq_ret, Prog.bind_assoc]
  iintro ⟨Hmw, Ht, HT, Hs0, HO, HH⟩ Hk
  iapply wp_fetch d L $$ [Hmw Ht HT Hs0 HO]
  · isplitl [Hmw]; · iexact Hmw
    isplitl [Ht]; · iexact Ht
    isplitl [HT]; · iexact HT
    isplitl [Hs0]; · iexact Hs0
    iexact HO
  iintro ⟨Hmw, Ht, HT, Hs0, HO⟩
  ihave HH := (Entails.of_eq (congrArg (histPts d L) (upTo_zero (zeros (F := F)) b).symm)) $$ HH
  iapply wp_ldH d L (n := 0) (by decide) $$ HH
  iintro HH
  iapply wp_stH d L (n := 0) zeros (by decide) rfl $$ HH
  iintro HH
  iapply wp_ldH d L (n := 16) (by decide) $$ HH
  iintro HH
  iapply wp_stH d L (n := 16) zeros (by decide) rfl $$ HH
  iintro HH
  iapply wp_ldH d L (n := 32) (by decide) $$ HH
  iintro HH
  iapply wp_stH d L (n := 32) zeros (by decide) rfl $$ HH
  iintro HH
  iapply wp_ldH d L (n := 48) (by decide) $$ HH
  iintro HH
  iapply wp_stH d L (n := 48) zeros (by decide) rfl $$ HH
  iintro HH
  iapply wp_ldH d L (n := 64) (by decide) $$ HH
  iintro HH
  iapply wp_stH d L (n := 64) zeros (by decide) rfl $$ HH
  iintro HH
  iapply wp_ldH d L (n := 80) (by decide) $$ HH
  iintro HH
  iapply wp_stH d L (n := 80) zeros (by decide) rfl $$ HH
  iintro HH
  iapply wp_ldH d L (n := 96) (by decide) $$ HH
  iintro HH
  iapply wp_stH d L (n := 96) zeros (by decide) rfl $$ HH
  iintro HH
  iapply wp_ldH d L (n := 112) (by decide) $$ HH
  iintro HH
  iapply wp_stH d L (n := 112) zeros (by decide) rfl $$ HH
  iintro HH
  iapply wp_ldH d L (n := 128) (by decide) $$ HH
  iintro HH
  iapply wp_stH d L (n := 128) zeros (by decide) rfl $$ HH
  iintro HH
  iapply wp_ldH d L (n := 144) (by decide) $$ HH
  iintro HH
  iapply wp_stH d L (n := 144) zeros (by decide) rfl $$ HH
  iintro HH
  iapply wp_ldH d L (n := 160) (by decide) $$ HH
  iintro HH
  iapply wp_stH d L (n := 160) zeros (by decide) rfl $$ HH
  iintro HH
  iapply wp_ldH d L (n := 176) (by decide) $$ HH
  iintro HH
  iapply wp_stH d L (n := 176) zeros (by decide) rfl $$ HH
  iintro HH
  iapply wp_ldH d L (n := 192) (by decide) $$ HH
  iintro HH
  iapply wp_stH d L (n := 192) zeros (by decide) rfl $$ HH
  iintro HH
  iapply wp_ldH d L (n := 208) (by decide) $$ HH
  iintro HH
  iapply wp_stH d L (n := 208) zeros (by decide) rfl $$ HH
  iintro HH
  iapply wp_ldH d L (n := 224) (by decide) $$ HH
  iintro HH
  iapply wp_stH d L (n := 224) zeros (by decide) rfl $$ HH
  iintro HH
  iapply wp_ldH d L (n := 240) (by decide) $$ HH
  iintro HH
  iapply wp_stH d L (n := 240) zeros (by decide) rfl $$ HH
  iintro HH
  iapply wp_ldH d L (n := 256) (by decide) $$ HH
  iintro HH
  iapply wp_stH d L (n := 256) zeros (by decide) rfl $$ HH
  iintro HH
  iapply wp_ldH d L (n := 272) (by decide) $$ HH
  iintro HH
  iapply wp_stH d L (n := 272) zeros (by decide) rfl $$ HH
  iintro HH
  iapply wp_ldH d L (n := 288) (by decide) $$ HH
  iintro HH
  iapply wp_stH d L (n := 288) zeros (by decide) rfl $$ HH
  iintro HH
  iapply Hk $$ [Hmw Ht HT Hs0 HO HH]
  isplitl [Hmw]; · iexact Hmw
  isplitl [Ht]; · iexact Ht
  isplitl [HT]; · iexact HT
  isplitl [Hs0]; · iexact Hs0
  isplitl [HO]; · iexact HO
  iexact HH

theorem wp_zero10 {α : Type} {Q : α → sProp 𝕄} {b : Vec F S1216 .f32} {k : PUnit → Prog (TpuEff nD τ sig (Elt F) Λ₀ (thr d L).2) α} :
    histPts d L (upTo 304 (zeros (F := F)) b)
     ⊢ iprop((histPts d L (upTo 624 (zeros (F := F)) b) -∗ wp frame (wpE (defs₀ (F := F)) 𝒱₀ (thr d L) none) Set.univ (k ⟨⟩) Q)
      -∗ wp frame (wpE (defs₀ (F := F)) 𝒱₀ (thr d L) none) Set.univ (k0_part10 (F := F) L tV (Memref.isWhole_whole _) pV (Memref.isWhole_whole _) sT (Memref.isWhole_whole _) sH (Memref.isWhole_whole _) sR (Memref.isWhole_whole _) cc0_scoped0 cc0_scoped1 k0_pay39 >>= k) Q) := by
  rw [k0_part10_eq_skeleton]; unfold k0_part10_skel
  simp only [Prog.lift, Prog.bind_op, Prog.bind_ret, Prog.pure_eq_ret, Prog.bind_assoc]
  iintro HH Hk
  iapply wp_ldH d L (n := 304) (by decide) $$ HH
  iintro HH
  iapply wp_stH d L (n := 304) zeros (by decide) rfl $$ HH
  iintro HH
  iapply wp_ldH d L (n := 320) (by decide) $$ HH
  iintro HH
  iapply wp_stH d L (n := 320) zeros (by decide) rfl $$ HH
  iintro HH
  iapply wp_ldH d L (n := 336) (by decide) $$ HH
  iintro HH
  iapply wp_stH d L (n := 336) zeros (by decide) rfl $$ HH
  iintro HH
  iapply wp_ldH d L (n := 352) (by decide) $$ HH
  iintro HH
  iapply wp_stH d L (n := 352) zeros (by decide) rfl $$ HH
  iintro HH
  iapply wp_ldH d L (n := 368) (by decide) $$ HH
  iintro HH
  iapply wp_stH d L (n := 368) zeros (by decide) rfl $$ HH
  iintro HH
  iapply wp_ldH d L (n := 384) (by decide) $$ HH
  iintro HH
  iapply wp_stH d L (n := 384) zeros (by decide) rfl $$ HH
  iintro HH
  iapply wp_ldH d L (n := 400) (by decide) $$ HH
  iintro HH
  iapply wp_stH d L (n := 400) zeros (by decide) rfl $$ HH
  iintro HH
  iapply wp_ldH d L (n := 416) (by decide) $$ HH
  iintro HH
  iapply wp_stH d L (n := 416) zeros (by decide) rfl $$ HH
  iintro HH
  iapply wp_ldH d L (n := 432) (by decide) $$ HH
  iintro HH
  iapply wp_stH d L (n := 432) zeros (by decide) rfl $$ HH
  iintro HH
  iapply wp_ldH d L (n := 448) (by decide) $$ HH
  iintro HH
  iapply wp_stH d L (n := 448) zeros (by decide) rfl $$ HH
  iintro HH
  iapply wp_ldH d L (n := 464) (by decide) $$ HH
  iintro HH
  iapply wp_stH d L (n := 464) zeros (by decide) rfl $$ HH
  iintro HH
  iapply wp_ldH d L (n := 480) (by decide) $$ HH
  iintro HH
  iapply wp_stH d L (n := 480) zeros (by decide) rfl $$ HH
  iintro HH
  iapply wp_ldH d L (n := 496) (by decide) $$ HH
  iintro HH
  iapply wp_stH d L (n := 496) zeros (by decide) rfl $$ HH
  iintro HH
  iapply wp_ldH d L (n := 512) (by decide) $$ HH
  iintro HH
  iapply wp_stH d L (n := 512) zeros (by decide) rfl $$ HH
  iintro HH
  iapply wp_ldH d L (n := 528) (by decide) $$ HH
  iintro HH
  iapply wp_stH d L (n := 528) zeros (by decide) rfl $$ HH
  iintro HH
  iapply wp_ldH d L (n := 544) (by decide) $$ HH
  iintro HH
  iapply wp_stH d L (n := 544) zeros (by decide) rfl $$ HH
  iintro HH
  iapply wp_ldH d L (n := 560) (by decide) $$ HH
  iintro HH
  iapply wp_stH d L (n := 560) zeros (by decide) rfl $$ HH
  iintro HH
  iapply wp_ldH d L (n := 576) (by decide) $$ HH
  iintro HH
  iapply wp_stH d L (n := 576) zeros (by decide) rfl $$ HH
  iintro HH
  iapply wp_ldH d L (n := 592) (by decide) $$ HH
  iintro HH
  iapply wp_stH d L (n := 592) zeros (by decide) rfl $$ HH
  iintro HH
  iapply wp_ldH d L (n := 608) (by decide) $$ HH
  iintro HH
  iapply wp_stH d L (n := 608) zeros (by decide) rfl $$ HH
  iintro HH
  iapply Hk $$ HH

theorem wp_zero11 {α : Type} {Q : α → sProp 𝕄} {b : Vec F S1216 .f32} {k : PUnit → Prog (TpuEff nD τ sig (Elt F) Λ₀ (thr d L).2) α} :
    histPts d L (upTo 624 (zeros (F := F)) b)
     ⊢ iprop((histPts d L (upTo 944 (zeros (F := F)) b) -∗ wp frame (wpE (defs₀ (F := F)) 𝒱₀ (thr d L) none) Set.univ (k ⟨⟩) Q)
      -∗ wp frame (wpE (defs₀ (F := F)) 𝒱₀ (thr d L) none) Set.univ (k0_part11 (F := F) L tV (Memref.isWhole_whole _) pV (Memref.isWhole_whole _) sT (Memref.isWhole_whole _) sH (Memref.isWhole_whole _) sR (Memref.isWhole_whole _) cc0_scoped0 cc0_scoped1 k0_pay39 >>= k) Q) := by
  rw [k0_part11_eq_skeleton]; unfold k0_part11_skel
  simp only [Prog.lift, Prog.bind_op, Prog.bind_ret, Prog.pure_eq_ret, Prog.bind_assoc]
  iintro HH Hk
  iapply wp_ldH d L (n := 624) (by decide) $$ HH
  iintro HH
  iapply wp_stH d L (n := 624) zeros (by decide) rfl $$ HH
  iintro HH
  iapply wp_ldH d L (n := 640) (by decide) $$ HH
  iintro HH
  iapply wp_stH d L (n := 640) zeros (by decide) rfl $$ HH
  iintro HH
  iapply wp_ldH d L (n := 656) (by decide) $$ HH
  iintro HH
  iapply wp_stH d L (n := 656) zeros (by decide) rfl $$ HH
  iintro HH
  iapply wp_ldH d L (n := 672) (by decide) $$ HH
  iintro HH
  iapply wp_stH d L (n := 672) zeros (by decide) rfl $$ HH
  iintro HH
  iapply wp_ldH d L (n := 688) (by decide) $$ HH
  iintro HH
  iapply wp_stH d L (n := 688) zeros (by decide) rfl $$ HH
  iintro HH
  iapply wp_ldH d L (n := 704) (by decide) $$ HH
  iintro HH
  iapply wp_stH d L (n := 704) zeros (by decide) rfl $$ HH
  iintro HH
  iapply wp_ldH d L (n := 720) (by decide) $$ HH
  iintro HH
  iapply wp_stH d L (n := 720) zeros (by decide) rfl $$ HH
  iintro HH
  iapply wp_ldH d L (n := 736) (by decide) $$ HH
  iintro HH
  iapply wp_stH d L (n := 736) zeros (by decide) rfl $$ HH
  iintro HH
  iapply wp_ldH d L (n := 752) (by decide) $$ HH
  iintro HH
  iapply wp_stH d L (n := 752) zeros (by decide) rfl $$ HH
  iintro HH
  iapply wp_ldH d L (n := 768) (by decide) $$ HH
  iintro HH
  iapply wp_stH d L (n := 768) zeros (by decide) rfl $$ HH
  iintro HH
  iapply wp_ldH d L (n := 784) (by decide) $$ HH
  iintro HH
  iapply wp_stH d L (n := 784) zeros (by decide) rfl $$ HH
  iintro HH
  iapply wp_ldH d L (n := 800) (by decide) $$ HH
  iintro HH
  iapply wp_stH d L (n := 800) zeros (by decide) rfl $$ HH
  iintro HH
  iapply wp_ldH d L (n := 816) (by decide) $$ HH
  iintro HH
  iapply wp_stH d L (n := 816) zeros (by decide) rfl $$ HH
  iintro HH
  iapply wp_ldH d L (n := 832) (by decide) $$ HH
  iintro HH
  iapply wp_stH d L (n := 832) zeros (by decide) rfl $$ HH
  iintro HH
  iapply wp_ldH d L (n := 848) (by decide) $$ HH
  iintro HH
  iapply wp_stH d L (n := 848) zeros (by decide) rfl $$ HH
  iintro HH
  iapply wp_ldH d L (n := 864) (by decide) $$ HH
  iintro HH
  iapply wp_stH d L (n := 864) zeros (by decide) rfl $$ HH
  iintro HH
  iapply wp_ldH d L (n := 880) (by decide) $$ HH
  iintro HH
  iapply wp_stH d L (n := 880) zeros (by decide) rfl $$ HH
  iintro HH
  iapply wp_ldH d L (n := 896) (by decide) $$ HH
  iintro HH
  iapply wp_stH d L (n := 896) zeros (by decide) rfl $$ HH
  iintro HH
  iapply wp_ldH d L (n := 912) (by decide) $$ HH
  iintro HH
  iapply wp_stH d L (n := 912) zeros (by decide) rfl $$ HH
  iintro HH
  iapply wp_ldH d L (n := 928) (by decide) $$ HH
  iintro HH
  iapply wp_stH d L (n := 928) zeros (by decide) rfl $$ HH
  iintro HH
  iapply Hk $$ HH

/-! ## The rows counted -/

/-- What the tile holds while it runs, besides its two transfers: the loop's invariant, at the sub-histograms `h`. -/
def rowInv (t : Vec F S128x512 .i32) (k : Nat) (_ : Unit) : sProp 𝕄 := iprop(bandPts d L t ∗ histPts d L (histAt t k))

theorem wp_rows12 {α : Type} {Q : α → sProp 𝕄} {t : Vec F S128x512 .i32}
    (hchk : ∀ (r : Fin 128) (j : Fin 32), k0_chk1 (tIdx (F := F) (subOff j.val) (piece t r j))) {b : Vec F S1216 .f32} {k : PUnit → Prog (TpuEff nD τ sig (Elt F) Λ₀ (thr d L).2) α} :
    iprop(bandPts d L t ∗ histPts d L (upTo 944 (zeros (F := F)) b))
     ⊢ iprop((iprop(bandPts d L t ∗ histPts d L (histAt t 128)) -∗ wp frame (wpE (defs₀ (F := F)) 𝒱₀ (thr d L) none) Set.univ (k ⟨⟩) Q)
      -∗ wp frame (wpE (defs₀ (F := F)) 𝒱₀ (thr d L) none) Set.univ (k0_part12 (F := F) L tV (Memref.isWhole_whole _) pV (Memref.isWhole_whole _) sT (Memref.isWhole_whole _) sH (Memref.isWhole_whole _) sR (Memref.isWhole_whole _) cc0_scoped0 cc0_scoped1 k0_pay39 >>= k) Q) := by
  rw [k0_part12_eq_skeleton]; unfold k0_part12_skel
  simp only [Prog.lift, Prog.bind_op, Prog.bind_ret, Prog.pure_eq_ret, Prog.bind_assoc]
  iintro ⟨HT, HH⟩ Hk
  iapply wp_ldH d L (n := 944) (by decide) $$ HH
  iintro HH
  iapply wp_stH d L (n := 944) zeros (by decide) rfl $$ HH
  iintro HH
  iapply wp_ldH d L (n := 960) (by decide) $$ HH
  iintro HH
  iapply wp_stH d L (n := 960) zeros (by decide) rfl $$ HH
  iintro HH
  iapply wp_ldH d L (n := 976) (by decide) $$ HH
  iintro HH
  iapply wp_stH d L (n := 976) zeros (by decide) rfl $$ HH
  iintro HH
  iapply wp_ldH d L (n := 992) (by decide) $$ HH
  iintro HH
  iapply wp_stH d L (n := 992) zeros (by decide) rfl $$ HH
  iintro HH
  iapply wp_ldH d L (n := 1008) (by decide) $$ HH
  iintro HH
  iapply wp_stH d L (n := 1008) zeros (by decide) rfl $$ HH
  iintro HH
  iapply wp_ldH d L (n := 1024) (by decide) $$ HH
  iintro HH
  iapply wp_stH d L (n := 1024) zeros (by decide) rfl $$ HH
  iintro HH
  iapply wp_ldH d L (n := 1040) (by decide) $$ HH
  iintro HH
  iapply wp_stH d L (n := 1040) zeros (by decide) rfl $$ HH
  iintro HH
  iapply wp_ldH d L (n := 1056) (by decide) $$ HH
  iintro HH
  iapply wp_stH d L (n := 1056) zeros (by decide) rfl $$ HH
  iintro HH
  iapply wp_ldH d L (n := 1072) (by decide) $$ HH
  iintro HH
  iapply wp_stH d L (n := 1072) zeros (by decide) rfl $$ HH
  iintro HH
  iapply wp_ldH d L (n := 1088) (by decide) $$ HH
  iintro HH
  iapply wp_stH d L (n := 1088) zeros (by decide) rfl $$ HH
  iintro HH
  iapply wp_ldH d L (n := 1104) (by decide) $$ HH
  iintro HH
  iapply wp_stH d L (n := 1104) zeros (by decide) rfl $$ HH
  iintro HH
  iapply wp_ldH d L (n := 1120) (by decide) $$ HH
  iintro HH
  iapply wp_stH d L (n := 1120) zeros (by decide) rfl $$ HH
  iintro HH
  iapply wp_ldH d L (n := 1136) (by decide) $$ HH
  iintro HH
  iapply wp_stH d L (n := 1136) zeros (by decide) rfl $$ HH
  iintro HH
  iapply wp_ldH d L (n := 1152) (by decide) $$ HH
  iintro HH
  iapply wp_stH d L (n := 1152) zeros (by decide) rfl $$ HH
  iintro HH
  iapply wp_ldH d L (n := 1168) (by decide) $$ HH
  iintro HH
  iapply wp_stH d L (n := 1168) zeros (by decide) rfl $$ HH
  iintro HH
  iapply wp_ldH d L (n := 1184) (by decide) $$ HH
  iintro HH
  iapply wp_stH d L (n := 1184) zeros (by decide) rfl $$ HH
  iintro HH
  iapply wp_ldH d L (n := 1200) (by decide) $$ HH
  iintro HH
  iapply wp_stH d L (n := 1200) zeros (by decide) rfl $$ HH
  iintro HH
  ihave HH := (Entails.of_eq (congrArg (histPts d L) (upTo_all (zeros (F := F)) b))) $$ HH
  sl_for (rowInv d L t) $$ [HT HH]
  case region =>
    intro k _
    unfold rowInv
    have e : histAt t (k.val + 1) = rowStep t (rowOf k) (histAt t k.val) := dif_pos (rowOf k).isLt
    rw [e]
    exact row_trip d L _ hchk _ k _
  · unfold rowInv
    isplitl [HT]; · iexact HT
    iexact HH
  iintro %_ HI
  unfold rowInv
  icases HI with ⟨HT, HH⟩
  iapply Hk $$ [HT HH]
  isplitl [HT]; · iexact HT
  iexact HH

/-! ## The four sub-histograms summed, part by part -/

/-- Four sub-histograms' sixteen places from `n`, summed in order, are the sum's sixteen places from `n`. -/
theorem slot_sum (h : Vec F S1216 .f32) (n : Nat) (hn : n + 16 ≤ 304) :
    addf (addf (addf (slot h n (by omega)) (slot h (n + 304) (by omega))) (slot h (n + 608) (by omega))) (slot h (n + 912) (by omega)) = slot (tileOut h) n hn := by
  funext x
  have e : ∀ j, j + n + 16 ≤ 1216 → ∀ h1 h2, h (ix1 ⟨n + j + (x 0).val, h1⟩) = h (ix1 ⟨j + (n + (x 0).val), h2⟩) := fun j _ h1 h2 => by
    congr 2; apply Fin.ext; show n + j + (x 0).val = j + (n + (x 0).val); omega
  have hx : (x 0).val < 16 := (x 0).isLt
  show FloatOps.addf (FloatOps.addf (FloatOps.addf (h (ix1 ⟨n + (x 0).val, _⟩)) (h (ix1 ⟨n + 304 + (x 0).val, _⟩))) (h (ix1 ⟨n + 608 + (x 0).val, _⟩))) (h (ix1 ⟨n + 912 + (x 0).val, _⟩)) = _
  rw [e 304 (by omega) _ (by omega), e 608 (by omega) _ (by omega), e 912 (by omega) _ (by omega)]
  rfl

theorem wp_sum13 {α : Type} {Q : α → sProp 𝕄} {h : Vec F S1216 .f32} {c : Vec F S304 .f32} {k : (Σ' (_ : Vec F S16 .f32), Vec F S16 .f32) → Prog (TpuEff nD τ sig (Elt F) Λ₀ (thr d L).2) α} :
    iprop(histPts d L h ∗ sumPts d L (upTo 0 (tileOut h) c))
     ⊢ iprop((iprop(histPts d L h ∗ sumPts d L (upTo 64 (tileOut h) c)) -∗ wp frame (wpE (defs₀ (F := F)) 𝒱₀ (thr d L) none) Set.univ (k ⟨(slot h 64 (by decide)), (slot h 368 (by decide))⟩) Q)
      -∗ wp frame (wpE (defs₀ (F := F)) 𝒱₀ (thr d L) none) Set.univ (k0_part13 (F := F) L tV (Memref.isWhole_whole _) pV (Memref.isWhole_whole _) sT (Memref.isWhole_whole _) sH (Memref.isWhole_whole _) sR (Memref.isWhole_whole _) cc0_scoped0 cc0_scoped1 >>= k) Q) := by
  rw [k0_part13_eq_skeleton]; unfold k0_part13_skel
  simp only [Prog.lift, Prog.bind_op, Prog.bind_ret, Prog.pure_eq_ret, Prog.bind_assoc]
  iintro ⟨HH, HR⟩ Hk
  iapply wp_ldH d L (n := 0) (by decide) $$ HH
  iintro HH
  iapply wp_ldH d L (n := 304) (by decide) $$ HH
  iintro HH
  iapply wp_ldH d L (n := 608) (by decide) $$ HH
  iintro HH
  iapply wp_ldH d L (n := 912) (by decide) $$ HH
  iintro HH
  iapply wp_ldR d L (n := 0) (by decide) $$ HR
  iintro HR
  iapply wp_stR d L (n := 0) (tileOut h) (by decide) (slot_sum h 0 (by decide)) $$ HR
  iintro HR
  iapply wp_ldH d L (n := 16) (by decide) $$ HH
  iintro HH
  iapply wp_ldH d L (n := 320) (by decide) $$ HH
  iintro HH
  iapply wp_ldH d L (n := 624) (by decide) $$ HH
  iintro HH
  iapply wp_ldH d L (n := 928) (by decide) $$ HH
  iintro HH
  iapply wp_ldR d L (n := 16) (by decide) $$ HR
  iintro HR
  iapply wp_stR d L (n := 16) (tileOut h) (by decide) (slot_sum h 16 (by decide)) $$ HR
  iintro HR
  iapply wp_ldH d L (n := 32) (by decide) $$ HH
  iintro HH
  iapply wp_ldH d L (n := 336) (by decide) $$ HH
  iintro HH
  iapply wp_ldH d L (n := 640) (by decide) $$ HH
  iintro HH
  iapply wp_ldH d L (n := 944) (by decide) $$ HH
  iintro HH
  iapply wp_ldR d L (n := 32) (by decide) $$ HR
  iintro HR
  iapply wp_stR d L (n := 32) (tileOut h) (by decide) (slot_sum h 32 (by decide)) $$ HR
  iintro HR
  iapply wp_ldH d L (n := 48) (by decide) $$ HH
  iintro HH
  iapply wp_ldH d L (n := 352) (by decide) $$ HH
  iintro HH
  iapply wp_ldH d L (n := 656) (by decide) $$ HH
  iintro HH
  iapply wp_ldH d L (n := 960) (by decide) $$ HH
  iintro HH
  iapply wp_ldR d L (n := 48) (by decide) $$ HR
  iintro HR
  iapply wp_stR d L (n := 48) (tileOut h) (by decide) (slot_sum h 48 (by decide)) $$ HR
  iintro HR
  iapply wp_ldH d L (n := 64) (by decide) $$ HH
  iintro HH
  iapply wp_ldH d L (n := 368) (by decide) $$ HH
  iintro HH
  iapply Hk $$ [HH HR]
  isplitl [HH]; · iexact HH
  iexact HR

theorem wp_sum14 {α : Type} {Q : α → sProp 𝕄} {h : Vec F S1216 .f32} {c : Vec F S304 .f32} {k : FVec F S16 .f32 → Prog (TpuEff nD τ sig (Elt F) Λ₀ (thr d L).2) α} :
    iprop(histPts d L h ∗ sumPts d L (upTo 64 (tileOut h) c))
     ⊢ iprop((iprop(histPts d L h ∗ sumPts d L (upTo 128 (tileOut h) c)) -∗ wp frame (wpE (defs₀ (F := F)) 𝒱₀ (thr d L) none) Set.univ (k (k0_pay49 (slot h 128 (by decide)) (slot h 432 (by decide)) (slot h 736 (by decide)))) Q)
      -∗ wp frame (wpE (defs₀ (F := F)) 𝒱₀ (thr d L) none) Set.univ (k0_part14 (F := F) L tV (Memref.isWhole_whole _) pV (Memref.isWhole_whole _) sT (Memref.isWhole_whole _) sH (Memref.isWhole_whole _) sR (Memref.isWhole_whole _) cc0_scoped0 cc0_scoped1 (slot h 64 (by decide)) (slot h 368 (by decide)) >>= k) Q) := by
  rw [k0_part14_eq_skeleton]; unfold k0_part14_skel
  simp only [Prog.lift, Prog.bind_op, Prog.bind_ret, Prog.pure_eq_ret, Prog.bind_assoc]
  iintro ⟨HH, HR⟩ Hk
  iapply wp_ldH d L (n := 672) (by decide) $$ HH
  iintro HH
  iapply wp_ldH d L (n := 976) (by decide) $$ HH
  iintro HH
  iapply wp_ldR d L (n := 64) (by decide) $$ HR
  iintro HR
  iapply wp_stR d L (n := 64) (tileOut h) (by decide) (slot_sum h 64 (by decide)) $$ HR
  iintro HR
  iapply wp_ldH d L (n := 80) (by decide) $$ HH
  iintro HH
  iapply wp_ldH d L (n := 384) (by decide) $$ HH
  iintro HH
  iapply wp_ldH d L (n := 688) (by decide) $$ HH
  iintro HH
  iapply wp_ldH d L (n := 992) (by decide) $$ HH
  iintro HH
  iapply wp_ldR d L (n := 80) (by decide) $$ HR
  iintro HR
  iapply wp_stR d L (n := 80) (tileOut h) (by decide) (slot_sum h 80 (by decide)) $$ HR
  iintro HR
  iapply wp_ldH d L (n := 96) (by decide) $$ HH
  iintro HH
  iapply wp_ldH d L (n := 400) (by decide) $$ HH
  iintro HH
  iapply wp_ldH d L (n := 704) (by decide) $$ HH
  iintro HH
  iapply wp_ldH d L (n := 1008) (by decide) $$ HH
  iintro HH
  iapply wp_ldR d L (n := 96) (by decide) $$ HR
  iintro HR
  iapply wp_stR d L (n := 96) (tileOut h) (by decide) (slot_sum h 96 (by decide)) $$ HR
  iintro HR
  iapply wp_ldH d L (n := 112) (by decide) $$ HH
  iintro HH
  iapply wp_ldH d L (n := 416) (by decide) $$ HH
  iintro HH
  iapply wp_ldH d L (n := 720) (by decide) $$ HH
  iintro HH
  iapply wp_ldH d L (n := 1024) (by decide) $$ HH
  iintro HH
  iapply wp_ldR d L (n := 112) (by decide) $$ HR
  iintro HR
  iapply wp_stR d L (n := 112) (tileOut h) (by decide) (slot_sum h 112 (by decide)) $$ HR
  iintro HR
  iapply wp_ldH d L (n := 128) (by decide) $$ HH
  iintro HH
  iapply wp_ldH d L (n := 432) (by decide) $$ HH
  iintro HH
  iapply wp_ldH d L (n := 736) (by decide) $$ HH
  iintro HH
  iapply Hk $$ [HH HR]
  isplitl [HH]; · iexact HH
  iexact HR

theorem wp_sum15 {α : Type} {Q : α → sProp 𝕄} {h : Vec F S1216 .f32} {c : Vec F S304 .f32} {k : FVec F S16 .f32 → Prog (TpuEff nD τ sig (Elt F) Λ₀ (thr d L).2) α} :
    iprop(histPts d L h ∗ sumPts d L (upTo 128 (tileOut h) c))
     ⊢ iprop((iprop(histPts d L h ∗ sumPts d L (upTo 192 (tileOut h) c)) -∗ wp frame (wpE (defs₀ (F := F)) 𝒱₀ (thr d L) none) Set.univ (k (k0_pay54 (slot h 192 (by decide)) (slot h 496 (by decide)) (slot h 800 (by decide)) (slot h 1104 (by decide)))) Q)
      -∗ wp frame (wpE (defs₀ (F := F)) 𝒱₀ (thr d L) none) Set.univ (k0_part15 (F := F) L tV (Memref.isWhole_whole _) pV (Memref.isWhole_whole _) sT (Memref.isWhole_whole _) sH (Memref.isWhole_whole _) sR (Memref.isWhole_whole _) cc0_scoped0 cc0_scoped1 (k0_pay49 (slot h 128 (by decide)) (slot h 432 (by decide)) (slot h 736 (by decide))) >>= k) Q) := by
  rw [k0_part15_eq_skeleton]; unfold k0_part15_skel
  simp only [Prog.lift, Prog.bind_op, Prog.bind_ret, Prog.pure_eq_ret, Prog.bind_assoc]
  iintro ⟨HH, HR⟩ Hk
  iapply wp_ldH d L (n := 1040) (by decide) $$ HH
  iintro HH
  iapply wp_ldR d L (n := 128) (by decide) $$ HR
  iintro HR
  iapply wp_stR d L (n := 128) (tileOut h) (by decide) (slot_sum h 128 (by decide)) $$ HR
  iintro HR
  iapply wp_ldH d L (n := 144) (by decide) $$ HH
  iintro HH
  iapply wp_ldH d L (n := 448) (by decide) $$ HH
  iintro HH
  iapply wp_ldH d L (n := 752) (by decide) $$ HH
  iintro HH
  iapply wp_ldH d L (n := 1056) (by decide) $$ HH
  iintro HH
  iapply wp_ldR d L (n := 144) (by decide) $$ HR
  iintro HR
  iapply wp_stR d L (n := 144) (tileOut h) (by decide) (slot_sum h 144 (by decide)) $$ HR
  iintro HR
  iapply wp_ldH d L (n := 160) (by decide) $$ HH
  iintro HH
  iapply wp_ldH d L (n := 464) (by decide) $$ HH
  iintro HH
  iapply wp_ldH d L (n := 768) (by decide) $$ HH
  iintro HH
  iapply wp_ldH d L (n := 1072) (by decide) $$ HH
  iintro HH
  iapply wp_ldR d L (n := 160) (by decide) $$ HR
  iintro HR
  iapply wp_stR d L (n := 160) (tileOut h) (by decide) (slot_sum h 160 (by decide)) $$ HR
  iintro HR
  iapply wp_ldH d L (n := 176) (by decide) $$ HH
  iintro HH
  iapply wp_ldH d L (n := 480) (by decide) $$ HH
  iintro HH
  iapply wp_ldH d L (n := 784) (by decide) $$ HH
  iintro HH
  iapply wp_ldH d L (n := 1088) (by decide) $$ HH
  iintro HH
  iapply wp_ldR d L (n := 176) (by decide) $$ HR
  iintro HR
  iapply wp_stR d L (n := 176) (tileOut h) (by decide) (slot_sum h 176 (by decide)) $$ HR
  iintro HR
  iapply wp_ldH d L (n := 192) (by decide) $$ HH
  iintro HH
  iapply wp_ldH d L (n := 496) (by decide) $$ HH
  iintro HH
  iapply wp_ldH d L (n := 800) (by decide) $$ HH
  iintro HH
  iapply wp_ldH d L (n := 1104) (by decide) $$ HH
  iintro HH
  iapply Hk $$ [HH HR]
  isplitl [HH]; · iexact HH
  iexact HR

theorem wp_sum16 {α : Type} {Q : α → sProp 𝕄} {h : Vec F S1216 .f32} {c : Vec F S304 .f32} {k : Vec F S16 .f32 → Prog (TpuEff nD τ sig (Elt F) Λ₀ (thr d L).2) α} :
    iprop(histPts d L h ∗ sumPts d L (upTo 192 (tileOut h) c))
     ⊢ iprop((iprop(histPts d L h ∗ sumPts d L (upTo 272 (tileOut h) c)) -∗ wp frame (wpE (defs₀ (F := F)) 𝒱₀ (thr d L) none) Set.univ (k (slot h 272 (by decide))) Q)
      -∗ wp frame (wpE (defs₀ (F := F)) 𝒱₀ (thr d L) none) Set.univ (k0_part16 (F := F) L tV (Memref.isWhole_whole _) pV (Memref.isWhole_whole _) sT (Memref.isWhole_whole _) sH (Memref.isWhole_whole _) sR (Memref.isWhole_whole _) cc0_scoped0 cc0_scoped1 (k0_pay54 (slot h 192 (by decide)) (slot h 496 (by decide)) (slot h 800 (by decide)) (slot h 1104 (by decide))) >>= k) Q) := by
  rw [k0_part16_eq_skeleton]; unfold k0_part16_skel
  simp only [Prog.lift, Prog.bind_op, Prog.bind_ret, Prog.pure_eq_ret, Prog.bind_assoc]
  iintro ⟨HH, HR⟩ Hk
  iapply wp_ldR d L (n := 192) (by decide) $$ HR
  iintro HR
  iapply wp_stR d L (n := 192) (tileOut h) (by decide) (slot_sum h 192 (by decide)) $$ HR
  iintro HR
  iapply wp_ldH d L (n := 208) (by decide) $$ HH
  iintro HH
  iapply wp_ldH d L (n := 512) (by decide) $$ HH
  iintro HH
  iapply wp_ldH d L (n := 816) (by decide) $$ HH
  iintro HH
  iapply wp_ldH d L (n := 1120) (by decide) $$ HH
  iintro HH
  iapply wp_ldR d L (n := 208) (by decide) $$ HR
  iintro HR
  iapply wp_stR d L (n := 208) (tileOut h) (by decide) (slot_sum h 208 (by decide)) $$ HR
  iintro HR
  iapply wp_ldH d L (n := 224) (by decide) $$ HH
  iintro HH
  iapply wp_ldH d L (n := 528) (by decide) $$ HH
  iintro HH
  iapply wp_ldH d L (n := 832) (by decide) $$ HH
  iintro HH
  iapply wp_ldH d L (n := 1136) (by decide) $$ HH
  iintro HH
  iapply wp_ldR d L (n := 224) (by decide) $$ HR
  iintro HR
  iapply wp_stR d L (n := 224) (tileOut h) (by decide) (slot_sum h 224 (by decide)) $$ HR
  iintro HR
  iapply wp_ldH d L (n := 240) (by decide) $$ HH
  iintro HH
  iapply wp_ldH d L (n := 544) (by decide) $$ HH
  iintro HH
  iapply wp_ldH d L (n := 848) (by decide) $$ HH
  iintro HH
  iapply wp_ldH d L (n := 1152) (by decide) $$ HH
  iintro HH
  iapply wp_ldR d L (n := 240) (by decide) $$ HR
  iintro HR
  iapply wp_stR d L (n := 240) (tileOut h) (by decide) (slot_sum h 240 (by decide)) $$ HR
  iintro HR
  iapply wp_ldH d L (n := 256) (by decide) $$ HH
  iintro HH
  iapply wp_ldH d L (n := 560) (by decide) $$ HH
  iintro HH
  iapply wp_ldH d L (n := 864) (by decide) $$ HH
  iintro HH
  iapply wp_ldH d L (n := 1168) (by decide) $$ HH
  iintro HH
  iapply wp_ldR d L (n := 256) (by decide) $$ HR
  iintro HR
  iapply wp_stR d L (n := 256) (tileOut h) (by decide) (slot_sum h 256 (by decide)) $$ HR
  iintro HR
  iapply wp_ldH d L (n := 272) (by decide) $$ HH
  iintro HH
  iapply Hk $$ [HH HR]
  isplitl [HH]; · iexact HH
  iexact HR

/-! ## The whole body -/

/-- The tile's whole body: its row of the partial histograms comes back at `parts t`. -/
theorem body_core {q : PosShare TreeShare} {t : Vec F S8x512x512 .i32} (ht : ∀ x, (t x : BitVec 32).toNat < 19) {O : CellTallies nD τ sig (HIx 1)} {W : Waits sig (HIx 1)}
   {f : Vec F S32x304 .f32} {a : Vec F S128x512 .i32} {b : Vec F S1216 .f32} {c : Vec F S304 .f32} :
    iprop(Transfers.MayWaits (thr d L) (none : HIx 1) O ∗ ((tV).view.loc (thr d L) ↦{q} t)
      ∗ ((pRow L).view.loc (thr d L) ↦[(pRow L).view.set]{fullShare} f) ∗ bandPts d L a ∗ histPts d L b ∗ sumPts d L c
      ∗ semVal (thr d L, SemLoc.dma cc0_scoped0.sem) 0 ∗ semVal (thr d L, SemLoc.dma cc0_scoped1.sem) 0 ∗ owes (thr d L) O W)
     ⊢ wp frame (wpE (defs₀ (F := F)) 𝒱₀ (thr d L) none) Set.univ
      (cc0__sc_hist_body (F := F) L tV (Memref.isWhole_whole _) pV (Memref.isWhole_whole _) sT (Memref.isWhole_whole _) sH (Memref.isWhole_whole _) sR (Memref.isWhole_whole _)
        cc0_scoped0 cc0_scoped1) fun _ => iprop(((tV).view.loc (thr d L) ↦{q} t)
      ∗ ((pRow L).view.loc (thr d L) ↦[(pRow L).view.set]{fullShare} parts t) ∗ (∃ a, bandPts d L a) ∗ (∃ b, histPts d L b) ∗ (∃ c, sumPts d L c)
      ∗ semVal (thr d L, SemLoc.dma cc0_scoped0.sem) 0 ∗ semVal (thr d L, SemLoc.dma cc0_scoped1.sem) 0
      ∗ owes (thr d L) O (insert (SemLoc.dma cc0_scoped1.sem, none) (insert (SemLoc.dma cc0_scoped0.sem, none) W))) := by
  have hchk : ∀ (r : Fin 128) (j : Fin 32), k0_chk1 (tIdx (F := F) (subOff j.val) (piece (bandOf t (wid L)) r j)) := fun r j => by
    refine chk_tIdx ?_ fun x => ht _
    unfold subOff
    rw [BitVec.toNat_ofNat]
    exact (Nat.mod_le _ _).trans (by omega)
  rw [cc0__sc_hist_body_eq_skeleton]; unfold cc0__sc_hist_body_skel
  iintro ⟨Hmw, Ht, Hp, HT, HH, HR, Hs0, Hs1, HO⟩
  iapply wp_zero9 d L $$ [Hmw Ht HT Hs0 HO HH]
  · isplitl [Hmw]; · iexact Hmw
    isplitl [Ht]; · iexact Ht
    isplitl [HT]; · iexact HT
    isplitl [Hs0]; · iexact Hs0
    isplitl [HO]; · iexact HO
    iexact HH
  iintro ⟨Hmw, Ht, HT, Hs0, HO, HH⟩
  iapply wp_zero10 d L $$ HH
  iintro HH
  iapply wp_zero11 d L $$ HH
  iintro HH
  iapply wp_rows12 d L hchk $$ [HT HH]
  · isplitl [HT]; · iexact HT
    iexact HH
  iintro ⟨HT, HH⟩
  ihave HR := (Entails.of_eq (congrArg (sumPts d L) (upTo_zero (tileOut (histAt (bandOf t (wid L)) 128)) c).symm)) $$ HR
  iapply wp_sum13 d L $$ [HH HR]
  · isplitl [HH]; · iexact HH
    iexact HR
  iintro ⟨HH, HR⟩
  iapply wp_sum14 d L $$ [HH HR]
  · isplitl [HH]; · iexact HH
    iexact HR
  iintro ⟨HH, HR⟩
  iapply wp_sum15 d L $$ [HH HR]
  · isplitl [HH]; · iexact HH
    iexact HR
  iintro ⟨HH, HR⟩
  iapply wp_sum16 d L $$ [HH HR]
  · isplitl [HH]; · iexact HH
    iexact HR
  iintro ⟨HH, HR⟩
  simp only [Prog.lift, Prog.bind_op, Prog.bind_ret, Prog.pure_eq_ret, Prog.bind_assoc]
  generalize hh : histAt (bandOf t (wid L)) 128 = h
  iapply wp_ldH d L (n := 576) (by decide) $$ HH
  iintro HH
  iapply wp_ldH d L (n := 880) (by decide) $$ HH
  iintro HH
  iapply wp_ldH d L (n := 1184) (by decide) $$ HH
  iintro HH
  iapply wp_ldR d L (n := 272) (by decide) $$ HR
  iintro HR
  iapply wp_stR d L (n := 272) (tileOut h) (by decide) (slot_sum h 272 (by decide)) $$ HR
  iintro HR
  iapply wp_ldH d L (n := 288) (by decide) $$ HH
  iintro HH
  iapply wp_ldH d L (n := 592) (by decide) $$ HH
  iintro HH
  iapply wp_ldH d L (n := 896) (by decide) $$ HH
  iintro HH
  iapply wp_ldH d L (n := 1200) (by decide) $$ HH
  iintro HH
  iapply wp_ldR d L (n := 288) (by decide) $$ HR
  iintro HR
  iapply wp_stR d L (n := 288) (tileOut h) (by decide) (slot_sum h 288 (by decide)) $$ HR
  iintro HR
  ihave HR := (Entails.of_eq (congrArg (sumPts d L) (upTo_all (tileOut h) c))) $$ HR
  subst hh
  -- the row written out
  iapply wp_writeout d L $$ [Hmw Hp HR Hs1 HO]
  · isplitl [Hmw]; · iexact Hmw
    isplitl [Hp]; · iexact Hp
    isplitl [HR]; · iexact HR
    isplitl [Hs1]; · iexact Hs1
    iexact HO
  iintro ⟨Hp, HR, Hs1, HO⟩
  rw [wp_ret]
  imodintro
  isplitl [Ht]; · iexact Ht
  isplitl [Hp]; · iexact Hp
  isplitl [HT]; · iexists _; iexact HT
  isplitl [HH]; · iexists _; iexact HH
  isplitl [HR]; · iexists _; iexact HR
  isplitl [Hs0]; · iexact Hs0
  isplitl [Hs1]; · iexact Hs1
  iexact HO

end Cert.Proof.K

end
-- ==== Proof.Tile.lean ====
/-
  The SparseCore call's payloads and obligations: each of the 32 tiles is handed a read share of the targets and its own
  row of the partial histograms, and gives the share back with the row at its value.
-/
module

public import proofs.«01_k».proof.Proof.TileRun

@[expose] public section

noncomputable section

namespace Cert.Proof.K

open Cert.KernelIdeal Cert.KernelIdeal.Gen
open Idealize.ShloMosaic Idealize.ShloMosaic.Transfers
open Idealize.ShloMosaic.SparseCore (V)
open Idealize.ShloMosaic.SparseCore.Cfg
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The payloads -/

/-- The targets of device `d`, at their launch contents. -/
abbrev tgt (d : Dev nD) : Vec F S8x512x512 .i32 := m (tLoc d)

/-- Every target is a class. -/
def InRange : Prop := ∀ (d : Dev nD) (x : S8x512x512.Idx), (tgt m d x : BitVec 32).toNat < 19

/-- Row `w` of the partial histograms. -/
def rowSet (w : Fin 32) : Finset S32x304.Idx := Finset.univ.filter fun x => (x 0).val = w.val

/-- Tile `w`'s read share of the targets. -/
abbrev tShare (w : Fin 32) : PosShare TreeShare := shareTok fullShare 32 w

/-- What tile `w` is handed and what it gives back: its share of the targets, its row of the partials (at `f`). -/
def tilePts (d : Dev nD) (f : Vec F S32x304 .f32) (w : Fin 32) : sProp 𝕄 :=
  iprop((tLoc d ↦{tShare w} tgt m d) ∗ (pLoc d ↦[rowSet w]{fullShare} f))

instance tilePts_storable (d : Dev nD) (f : Vec F S32x304 .f32) (w : Fin 32) : BI.Storable (upEmb : UEmb _ 𝕄) (tilePts m d f w) := by
  unfold tilePts; infer_instance

/-- The tile's number from its SparseCore and subcore. -/
def tileNo (c : Fin ((K (F := F)).nCore 0)) (i : Fin ((K (F := F)).nSub 0)) : Fin 32 := ⟨2 * i.val + c.val, by
  have h0 : c.val < 2 := nCore_zero (F := F) ▸ c.isLt
  have h1 : i.val < 16 := nSub_zero (F := F) ▸ i.isLt
  omega⟩

/-- The call's payloads: to a SparseCore what its sixteen tiles are to have, and back. -/
def P : (K (F := F)).Pay (nD := nD) (Val := Elt F) (Name := ℕ) (U := UU) where
  st := fun q d c => match q with | 0 => bigSep Finset.univ fun i => tilePts m d (m (pLoc d)) (tileNo c i)
  dn := fun q d c => match q with | 0 => bigSep Finset.univ fun i => tilePts m d (parts (tgt m d)) (tileNo c i)
  go := fun q d c i => match q with | 0 => tilePts m d (m (pLoc d)) (tileNo c i)
  td := fun q d c i => match q with | 0 => tilePts m d (parts (tgt m d)) (tileNo c i)
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

theorem vecSplit : (K (F := F)).VecSplit' (P m) 0 := by
  intro d c
  show (bigSep Finset.univ fun i => tilePts m d (m (pLoc d)) (tileNo c i)) ⊢ |={Set.univ}=> iprop((bigSep Finset.univ fun i => tilePts m d (m (pLoc d)) (tileNo c i))
    ∗ ((bigSep Finset.univ fun i => tilePts m d (parts (tgt m d)) (tileNo c i)) -∗ bigSep Finset.univ fun i => tilePts m d (parts (tgt m d)) (tileNo c i)))
  iintro H; imodintro
  isplitl [H]; · iexact H
  iintro H; iexact H

/-! ## The tile's obligation -/

section Tile

variable (d : Dev nD) (L : grid0.Coords)

abbrev fetchCell : GSem nD τ sig := (thr d L, .dma cc0_scoped0.sem)
abbrev outCell : GSem nD τ sig := (thr d L, .dma cc0_scoped1.sem)

omit [FloatOps F] in
theorem pRow_set : (pRow L).view.set = rowSet (wid L) := by
  ext x
  unfold rowSet
  rw [Finset.mem_filter]
  constructor
  · intro h
    obtain ⟨y, -, rfl⟩ := Finset.mem_map.mp h
    exact ⟨Finset.mem_univ _, by rw [pRow_emb]⟩
  · rintro ⟨-, h⟩
    refine Finset.mem_map.mpr ⟨ix1 (x 1), Finset.mem_univ _, (pRow_emb L _).trans ?_⟩
    rw [← (Fin.ext h : (x 0 : Fin 32) = wid L)]
    exact (ValueIdx.eq_ix2 x).symm

omit [FloatOps F] in
/-- The two transfers' semaphores among the tile's own. -/
theorem ownSems0_thr : (ownSems0 (thr d L) : sProp 𝕄)
    = iprop(semVal (fetchCell d L) 0 ∗ semVal (outCell d L) 0
        ∗ bigSep (((ownCells (thr d L)).erase (fetchCell d L)).erase (outCell d L)) fun g => semVal g 0) := by
  unfold SparseCore.Cfg.ownSems0
  rw [SparseCore.bigSep_erase' ((mem_ownCells (g := fetchCell d L)).mpr ⟨rfl, by
      show (SemLoc.dma cc0_scoped0.sem : SemLoc sig).isScoped .scVector = true; decide⟩),
    SparseCore.bigSep_erase' (Finset.mem_erase.mpr ⟨by simp [fetchCell, outCell]; decide, (mem_ownCells (g := outCell d L)).mpr ⟨rfl, by
      show (SemLoc.dma cc0_scoped1.sem : SemLoc sig).isScoped .scVector = true; decide⟩⟩)]

omit [FloatOps F] in
/-- The three scratch buffers among the tile's own. -/
theorem ownBufs_thr : (ownBufs (thr d L) : sProp 𝕄)
    = iprop((∃ f, bandPts d L f) ∗ (∃ f, histPts d L f) ∗ (∃ f, sumPts d L f)
        ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]
  rfl

/-- The task with its payload and its scoped resources. -/
theorem tile_task (hF : (K (F := F)).Facts) (hm : InRange m) (O : CellTallies nD τ sig (HIx 1)) (W : Waits sig (HIx 1)) (hO : ∀ g, O g none = 0) :
    iprop(levAts (K (F := F)).L (K (F := F)).lev ∗ emp ∗ tilePts m d (m (pLoc d)) (wid L) ∗ scopedBufs (thr d L) ∗ scopedSems0 (thr d L) ∗ owes (thr d L) O W)
      ⊢ wp frame (wpE (defs₀ (F := F)) 𝒱₀ (thr d L) none) Set.univ
        (cc0__sc_hist_body (F := F) L tV (Memref.isWhole_whole _) pV (Memref.isWhole_whole _) sT (Memref.isWhole_whole _) sH (Memref.isWhole_whole _) sR (Memref.isWhole_whole _)
          cc0_scoped0 cc0_scoped1)
        fun _ => iprop(tilePts m d (parts (tgt m d)) (wid L) ∗ scopedBufs (thr d L) ∗ scopedSems0 (thr d L)
          ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_thr, ownBufs_thr]
  unfold tilePts
  rw [← pRow_set]
  iintro ⟨#Hlv, -, ⟨Ht, Hp⟩, ⟨⟨%a, Ha⟩, ⟨%b, Hb⟩, ⟨%c, Hc⟩, Hbufs⟩, ⟨Hs0, Hs1, Hsems⟩, HO⟩
  ihave Hmw := ((K (F := F)).mayWaits_none (thr := thr d L) hO) $$ Hlv
  iapply (wp_wand_r frame (wpE (defs₀ (F := F)) 𝒱₀ (thr d L) none) Set.univ)
  isplitl [Hmw Ht Hp Ha Hb Hc Hs0 Hs1 HO]
  · iapply (body_core d L (q := tShare (wid L)) (t := tgt m d) (hm d) (O := O) (W := W))
    isplitl [Hmw]; · iexact Hmw
    isplitl [Ht]; · iexact Ht
    isplitl [Hp]; · iexact Hp
    isplitl [Ha]; · iexact Ha
    isplitl [Hb]; · iexact Hb
    isplitl [Hc]; · iexact Hc
    isplitl [Hs0]; · iexact Hs0
    isplitl [Hs1]; · iexact Hs1
    iexact HO
  iintro %_ ⟨Ht, Hp, Ha, Hb, Hc, Hs0, Hs1, HO⟩
  isplitl [Ht Hp]
  · isplitl [Ht]; · iexact Ht
    iexact Hp
  isplitl [Ha Hb Hc Hbufs]
  · isplitl [Ha]; · iexact Ha
    isplitl [Hb]; · iexact Hb
    isplitl [Hc]; · iexact Hc
    iexact Hbufs
  isplitl [Hs0 Hs1 Hsems]
  · isplitl [Hs0]; · iexact Hs0
    isplitl [Hs1]; · iexact Hs1
    iexact Hsems
  iexists insert (SemLoc.dma cc0_scoped1.sem, none) (insert (SemLoc.dma cc0_scoped0.sem, none) W)
  isplitr
  · ipureintro
    intro p hp
    rcases Finset.mem_insert.mp hp with rfl | hp
    · exact .inr (.inl rfl)
    rcases Finset.mem_insert.mp hp with rfl | hp
    · exact .inr (.inl rfl)
    exact .inl hp
  iexact HO

end Tile

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none ∨ p.2 = some q⌝ ∗ owes thr O W')
      ⊢ iprop(A ∗ B ∗ C ∗ ∃ W', ⌜∀ p ∈ W', p ∈ W ∨ p.2 = none ∨ p.2 = some q⌝ ∗ owes thr O W') := .rfl

theorem defs₀_vector (c : Fin τ.nSC) (s : Fin τ.nSub) :
    defs₀ (F := F) (.scVector c s) 0 ()
      = SparseCore.onTile hcore0 hsub0 (fun c s => cc0__sc_hist_body (F := F) (coordsV c s) tV (Memref.isWhole_whole _) pV (Memref.isWhole_whole _) sT (Memref.isWhole_whole _)
          sH (Memref.isWhole_whole _) sR (Memref.isWhole_whole _) cc0_scoped0 cc0_scoped1) ⟨⟩ c s := rfl

set_option maxRecDepth 8192 in
/-- The call's obligation at every tile. -/
theorem tileObl (hF : (K (F := F)).Facts) (hm : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF hm O W hO).trans (wp_mono frame _ _ fun _ => obl_post)

end Cert.Proof.K

end
-- ==== Proof.Nll.lean ====
/-
  What the TensorCore's grid computes, as plain functions: a class's weight from the class counts, each pixel's weight and
  picked logit built class by class, the two sums over a block of rows, and the three running scalars the grid carries from
  point to point.
-/
module

public import proofs.«01_k».proof.Proof.Hist

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## One block of rows -/

/-- The count of class `n`. -/
def binAt (b : Vec F S19 .f32) (n : Nat) : F .f32 := b (ix1 (Fin.ofNat 19 n))

/-- The counts of classes `0 … n`, added in order. -/
def totalTo (b : Vec F S19 .f32) : Nat → F .f32
  | 0 => binAt b 0
  | n + 1 => Scalar.addf (totalTo b n) (binAt b (n + 1))

/-- Class `n`'s weight, given all the counts' sum `tot`: one more than the share of pixels of other classes, where the class
    occurs at all. -/
def wcls (b : Vec F S19 .f32) (tot : F .f32) (n : Nat) : F .f32 :=
  Scalar.addf (Scalar.select (Scalar.cmpf .one (binAt b n) (Scalar.ofBits .f32 0x00000000#32))
    (Scalar.subf (Scalar.ofBits .f32 0x3F800000#32) (Scalar.divf (binAt b n) tot)) (Scalar.ofBits .f32 0x00000000#32)) (Scalar.ofBits .f32 0x3F800000#32)

/-- The pixels of class `n`. -/
def isCls (t : IVec S256x512 32) (n : Nat) : IVec S256x512 1 := cmpi .eq t (broadcast S256x512 (BitVec.ofNat 32 n))

theorem slices_cls {n : Nat} (h : n < 19) : S19x256x512.Slices ![n, 0, 0] S1x256x512 :=
  ⟨rfl, fun a => by
    have e : a = 0 ∨ a = 1 ∨ a = 2 := by revert a; decide
    obtain rfl | rfl | rfl := e
    · show n + 1 ≤ 19; omega
    · show 0 + 256 ≤ 256; omega
    · show 0 + 512 ≤ 512; omega⟩

/-- The logits of class `n`. -/
def xCls (x : FVec F S19x256x512 .f32) (n : Nat) : FVec F S256x512 .f32 :=
  if h : n < 19 then shapeCast S256x512 (extractStridedSlice S1x256x512 ![n, 0, 0] x (slices_cls h)) shapeCasts_S1x256x512_S256x512
  else broadcast S256x512 (Scalar.ofBits .f32 0x00000000#32)

/-- Each pixel's weight, classes below `n` looked at. -/
def wselAt (b : Vec F S19 .f32) (tot : F .f32) (t : IVec S256x512 32) : Nat → FVec F S256x512 .f32
  | 0 => broadcast S256x512 (Scalar.ofBits .f32 0x00000000#32)
  | n + 1 => select (isCls t n) (broadcast S256x512 (wcls b tot n)) (wselAt b tot t n)

/-- Each pixel's own logit, classes below `n` looked at. -/
def pickedAt (x : FVec F S19x256x512 .f32) (t : IVec S256x512 32) : Nat → FVec F S256x512 .f32
  | 0 => broadcast S256x512 (Scalar.ofBits .f32 0x00000000#32)
  | n + 1 => select (isCls t n) (xCls x n) (pickedAt x t n)

/-- A block's logits without their leading axis. -/
def xBlk (x : Vec F S1x19x256x512 .f32) : FVec F S19x256x512 .f32 := shapeCast S19x256x512 x shapeCasts_S1x19x256x512_S19x256x512

/-- A block's classes without their leading axis. -/
def tBlk (t : Vec F S1x256x512 .i32) : IVec S256x512 32 := shapeCast S256x512 t shapeCasts_S1x256x512_S256x512

/-- The log of the sum of a pixel's exponentials. -/
def lseBlk (x : FVec F S19x256x512 .f32) : FVec F S256x512 .f32 :=
  log (multiReduction .add [0] S256x512 (exp x) 0x00000000#32 reduces_S19x256x512_S256x512 (.inl rfl) rfl)

/-- A block's sum over its pixels. -/
def sumBlk (v : FVec F S256x512 .f32) : F .f32 :=
  extractAt ![0, 0, 0] (shapeCast S1x1x1 (multiReduction .add [1, 2] S1 (shapeCast S1x256x512 v shapeCasts_S256x512_S1x256x512) 0x00000000#32 reduces_S1x256x512_S1 (.inl rfl) rfl)
    shapeCasts_S1_S1x1x1) inpos_S1x1x1_p0_0_0

/-- A block's weighted log-likelihoods, summed. -/
def numBlk (b : Vec F S19 .f32) (x : Vec F S1x19x256x512 .f32) (t : Vec F S1x256x512 .i32) : F .f32 :=
  sumBlk (mulf (wselAt b (totalTo b 18) (tBlk t) 19) (subf (pickedAt (xBlk x) (tBlk t) 19) (lseBlk (xBlk x))))

/-- A block's weights, summed. -/
def denBlk (b : Vec F S19 .f32) (t : Vec F S1x256x512 .i32) : F .f32 := sumBlk (wselAt b (totalTo b 18) (tBlk t) 19)

/-! ## The running scalars -/

/-- Place `n` of the three scalars set to `w`. -/
def put (f : Vec F S3 .f32) (n : Fin 3) (w : F .f32) : Vec F S3 .f32 := fun x => if (x 0).val = n.val then w else f x

/-- An image's loss from its two sums. -/
def imgLoss (u v : F .f32) : F .f32 := Scalar.divf (Scalar.subf (Scalar.ofBits .f32 0x00000000#32) u) v

/-- The three scalars after the two sums `u`, `v` of the block at image `b`, half `h`. -/
def accNext (b h : Nat) (u v : F .f32) (f : Vec F S3 .f32) : Vec F S3 .f32 :=
  if h = 0 then put (put f 0 u) 1 v
  else
    let g := put (put f 0 (Scalar.addf (f (ix1 0)) u)) 1 (Scalar.addf (put f 0 (Scalar.addf (f (ix1 0)) u) (ix1 1)) v)
    if b = 0 then put g 2 (imgLoss (g (ix1 0)) (g (ix1 1))) else put g 2 (Scalar.addf (g (ix1 2)) (imgLoss (g (ix1 0)) (g (ix1 1))))

/-- The result's one place after the block at image `b`, half `h`. -/
def outNext (b h : Nat) (g : Vec F S3 .f32) (o : Vec F S1 .f32) : Vec F S1 .f32 := if h = 1 ∧ b = 7 then fun _ => g (ix1 2) else o

end Cert.Proof.K
-- ==== Proof.NllOps.lean ====
/-
  One grid point's run: the loads of its two blocks and of the class counts, the values it computes of them, and what it leaves
  in the three scalars and the result.
-/
module

public import proofs.«01_k».proof.Proof.Nll

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Fin nD)

/-! ## Loads and stores of single places -/

theorem wp_ldB {α : Type} {Q : α → sProp 𝕄} {M : Memref sig .tc .smem S19 .f32} {b : Vec F S19 .f32} (n : Fin 19)
    {hin : ∀ a, (![n.val] : Fin 1 → Nat) a + S1.size a ≤ S19.size a} {h1} {hp} {k : F .f32 → Prog (TpuEff nD τ sig (Elt F) Λ₀ (SparseCore.T d).2) α} :
    owns (SparseCore.T d) M fullShare b ⊢ iprop((owns (SparseCore.T d) M fullShare b -∗ wp frame (wpE (defs₀ (F := F)) 𝒱₀ (SparseCore.T d) none) Set.univ (k (b (ix1 n))) Q)
      -∗ wp frame (wpE (defs₀ (F := F)) 𝒱₀ (SparseCore.T d) none) Set.univ ((smemLoad (p := (SparseCore.T d).2) M (Rect.unit (s := S19) ![n.val] S1.size hin) h1 hp : Prog (TpuEff nD τ sig (Elt F) Λ₀ (SparseCore.T d).2) (F .f32)) >>= k) Q) := by
  unfold owns
  iintro ⟨%f, %hf, H⟩ Hk
  have hv : (M.access (Rect.unit (s := S19) ![n.val] S1.size hin)).read (Elt F) f (Shape.Idx.first (h1.symm ▸ Nat.one_pos)) = b (ix1 n) := by
    subst hf
    show M.view.read (Elt F) f _ = M.view.read (Elt F) f _
    congr 1
    funext (a : Fin 1)
    obtain rfl : a = 0 := Subsingleton.elim _ _
    apply Fin.ext
    show n.val + 1 * 0 = n.val
    omega
  iapply (wp_smemLoadElt (defs := defs₀ (F := F)) 𝒱₀ (SparseCore.T d) none Set.univ (m := M) (r := Rect.unit (s := S19) ![n.val] S1.size hin)
    (hw := View.loads_smem_one hp h1) (x := Shape.Idx.first (h1.symm ▸ Nat.one_pos)) (S := M.view.set) (f := f) (k := k) (View.set_slice_subset _ _)) $$ H
  iintro H
  rw [hv]
  iapply Hk
  iexists f
  isplitr
  · ipureintro; exact hf
  iexact H

theorem wp_ldX {α : Type} {Q : α → sProp 𝕄} {M : Memref sig .tc .vmem S1x19x256x512 .f32} {x : Vec F S1x19x256x512 .f32}
    {hin : ∀ a, (![0, 0, 0, 0] : Fin _ → Nat) a + S1x19x256x512.size a ≤ S1x19x256x512.size a} {hl} {k : Vec F S1x19x256x512 .f32 → Prog (TpuEff nD τ sig (Elt F) Λ₀ (SparseCore.T d).2) α} :
    owns (SparseCore.T d) M fullShare x ⊢ iprop((owns (SparseCore.T d) M fullShare x -∗ wp frame (wpE (defs₀ (F := F)) 𝒱₀ (SparseCore.T d) none) Set.univ (k x) Q)
      -∗ wp frame (wpE (defs₀ (F := F)) 𝒱₀ (SparseCore.T d) none) Set.univ (.op (.load M (Rect.unit (s := S1x19x256x512) ![0, 0, 0, 0] S1x19x256x512.size hin).toLoadRect hl) k) Q) := by
  unfold owns
  iintro ⟨%f, %hf, H⟩ Hk
  have hv : M.view.readAt (Elt F) (Rect.unit (s := S1x19x256x512) ![0, 0, 0, 0] S1x19x256x512.size hin).toLoadRect f = x := by
    funext y
    rw [View.readAt_apply]
    subst hf
    congr 1
    funext a
    apply Fin.ext
    show (![0, 0, 0, 0] : Fin _ → Nat) a + 1 * (y a).val = (y a).val
    have e : (![0, 0, 0, 0] : Fin _ → Nat) a = 0 := by revert a; decide
    rw [e]; omega
  iapply (wp_load (defs := defs₀ (F := F)) 𝒱₀ (SparseCore.T d) none Set.univ (m := M) (S := M.view.set) (f := f) (hl := hl) (k := k) (View.setOn_subset_set _ _)) $$ H
  iintro H
  rw [hv]
  iapply Hk
  iexists f
  isplitr
  · ipureintro; exact hf
  iexact H

theorem wp_ldT {α : Type} {Q : α → sProp 𝕄} {M : Memref sig .tc .vmem S1x256x512 .i32} {x : Vec F S1x256x512 .i32}
    {hin : ∀ a, (![0, 0, 0] : Fin _ → Nat) a + S1x256x512.size a ≤ S1x256x512.size a} {hl} {k : Vec F S1x256x512 .i32 → Prog (TpuEff nD τ sig (Elt F) Λ₀ (SparseCore.T d).2) α} :
    owns (SparseCore.T d) M fullShare x ⊢ iprop((owns (SparseCore.T d) M fullShare x -∗ wp frame (wpE (defs₀ (F := F)) 𝒱₀ (SparseCore.T d) none) Set.univ (k x) Q)
      -∗ wp frame (wpE (defs₀ (F := F)) 𝒱₀ (SparseCore.T d) none) Set.univ (.op (.load M (Rect.unit (s := S1x256x512) ![0, 0, 0] S1x256x512.size hin).toLoadRect hl) k) Q) := by
  unfold owns
  iintro ⟨%f, %hf, H⟩ Hk
  have hv : M.view.readAt (Elt F) (Rect.unit (s := S1x256x512) ![0, 0, 0] S1x256x512.size hin).toLoadRect f = x := by
    funext y
    rw [View.readAt_apply]
    subst hf
    congr 1
    funext a
    apply Fin.ext
    show (![0, 0, 0] : Fin _ → Nat) a + 1 * (y a).val = (y a).val
    have e : (![0, 0, 0] : Fin _ → Nat) a = 0 := by revert a; decide
    rw [e]; omega
  iapply (wp_load (defs := defs₀ (F := F)) 𝒱₀ (SparseCore.T d) none Set.univ (m := M) (S := M.view.set) (f := f) (hl := hl) (k := k) (View.setOn_subset_set _ _)) $$ H
  iintro H
  rw [hv]
  iapply Hk
  iexists f
  isplitr
  · ipureintro; exact hf
  iexact H

/-- The three scalars' memory. -/
abbrev sA : Memref sig .tc .smem S3 .f32 := Memref.whole cc1_scratch0

/-- The three scalars hold `f`. -/
def accPts (f : Vec F S3 .f32) : sProp 𝕄 := iprop((sA).view.loc (SparseCore.T d) ↦{fullShare} f)

theorem wp_ldA {α : Type} {Q : α → sProp 𝕄} {f : Vec F S3 .f32} (n : Fin 3)
    {hin : ∀ a, (![n.val] : Fin 1 → Nat) a + S1.size a ≤ S3.size a} {h1} {hp} {k : F .f32 → Prog (TpuEff nD τ sig (Elt F) Λ₀ (SparseCore.T d).2) α} :
    accPts d f ⊢ iprop((accPts d f -∗ wp frame (wpE (defs₀ (F := F)) 𝒱₀ (SparseCore.T d) none) Set.univ (k (f (ix1 n))) Q)
      -∗ wp frame (wpE (defs₀ (F := F)) 𝒱₀ (SparseCore.T d) none) Set.univ ((smemLoad (p := (SparseCore.T d).2) sA (Rect.unit (s := S3) ![n.val] S1.size hin) h1 hp : Prog (TpuEff nD τ sig (Elt F) Λ₀ (SparseCore.T d).2) (F .f32)) >>= k) Q) := by
  have hv : ((sA).access (Rect.unit (s := S3) ![n.val] S1.size hin)).read (Elt F) f (Shape.Idx.first (h1.symm ▸ Nat.one_pos)) = f (ix1 n) := by
    show f _ = f _
    congr 1
    funext (a : Fin 1)
    obtain rfl : a = 0 := Subsingleton.elim _ _
    apply Fin.ext
    show n.val + 1 * 0 = n.val
    omega
  rw [← hv]
  exact wp_smemLoadElt (defs := defs₀ (F := F)) 𝒱₀ (SparseCore.T d) none Set.univ (m := sA) (r := Rect.unit (s := S3) ![n.val] S1.size hin)
    (hw := View.loads_smem_one hp h1) (x := Shape.Idx.first (h1.symm ▸ Nat.one_pos)) (S := Finset.univ) (f := f) (k := k) (Finset.subset_univ _)

omit [FloatOps F] in
theorem write_put (f : Vec F S3 .f32) (n : Fin 3) (w : F .f32) (hin : ∀ a, (![n.val] : Fin 1 → Nat) a + S1.size a ≤ S3.size a) :
    (((sA).access (Rect.unit (s := S3) ![n.val] S1.size hin)).write (Elt F) f (fun _ => w) Finset.univ : Vec F S3 .f32) = put f n w := by
  funext x
  unfold put
  by_cases hx : (x 0).val = n.val
  · have e : x = ((sA).access (Rect.unit (s := S3) ![n.val] S1.size hin)).emb (ix1 0) := by
      funext (a : Fin 1)
      obtain rfl : a = 0 := Subsingleton.elim _ _
      apply Fin.ext
      show (x 0).val = n.val + 1 * 0
      rw [hx]; omega
    rw [if_pos hx]
    exact (congrArg _ e).trans (View.write_emb_of_mem _ _ (Finset.mem_univ _))
  · rw [if_neg hx]
    refine View.write_of_not_mem _ _ _ ?_
    rw [View.setOn_univ]
    intro hm
    obtain ⟨y, -, hy⟩ := Finset.mem_map.mp hm
    refine hx ?_
    rw [← hy]
    show n.val + 1 * (y 0).val = n.val
    have : (y 0).val < 1 := (y 0).isLt
    omega

theorem wp_stA {α : Type} {Q : α → sProp 𝕄} {f : Vec F S3 .f32} (n : Fin 3) {w : F .f32}
    {hin : ∀ a, (![n.val] : Fin 1 → Nat) a + S1.size a ≤ S3.size a} {hs : ((sA).access (Rect.unit (s := S3) ![n.val] S1.size hin)).Stores Finset.univ}
    {hm} {k : PUnit → Prog (TpuEff nD τ sig (Elt F) Λ₀ (SparseCore.T d).2) α} :
    accPts d f ⊢ iprop((accPts d (put f n w) -∗ wp frame (wpE (defs₀ (F := F)) 𝒱₀ (SparseCore.T d) none) Set.univ (k ⟨⟩) Q)
      -∗ wp frame (wpE (defs₀ (F := F)) 𝒱₀ (SparseCore.T d) none) Set.univ (.op (.store sA (Rect.unit (s := S3) ![n.val] S1.size hin) (fun _ => w) Finset.univ hs hm) k) Q) := by
  rw [← write_put f n w hin]
  exact wp_store (defs := defs₀ (F := F)) 𝒱₀ (SparseCore.T d) none Set.univ (m := sA) (r := Rect.unit (s := S3) ![n.val] S1.size hin) (Mk := Finset.univ) (S := Finset.univ)
    (w := fun _ => w) (f := f) (hx := hs) (hm := hm) (k := k) (Finset.subset_univ _)

theorem wp_ldO {α : Type} {Q : α → sProp 𝕄} {M : Memref sig .tc .smem S1 .f32} {o : Vec F S1 .f32}
    {hin : ∀ a, (![0] : Fin 1 → Nat) a + S1.size a ≤ S1.size a} {h1} {hp} {k : F .f32 → Prog (TpuEff nD τ sig (Elt F) Λ₀ (SparseCore.T d).2) α} :
    owns (SparseCore.T d) M fullShare o ⊢ iprop((∀ z, owns (SparseCore.T d) M fullShare o -∗ wp frame (wpE (defs₀ (F := F)) 𝒱₀ (SparseCore.T d) none) Set.univ (k z) Q)
      -∗ wp frame (wpE (defs₀ (F := F)) 𝒱₀ (SparseCore.T d) none) Set.univ ((smemLoad (p := (SparseCore.T d).2) M (Rect.unit (s := S1) ![0] S1.size hin) h1 hp : Prog (TpuEff nD τ sig (Elt F) Λ₀ (SparseCore.T d).2) (F .f32)) >>= k) Q) := by
  unfold owns
  iintro ⟨%f, %hf, H⟩ Hk
  iapply (wp_smemLoadElt (defs := defs₀ (F := F)) 𝒱₀ (SparseCore.T d) none Set.univ (m := M) (r := Rect.unit (s := S1) ![0] S1.size hin)
    (hw := View.loads_smem_one hp h1) (x := Shape.Idx.first (h1.symm ▸ Nat.one_pos)) (S := M.view.set) (f := f) (k := k) (View.set_slice_subset _ _)) $$ H
  iintro H
  iapply Hk
  iexists f
  isplitr
  · ipureintro; exact hf
  iexact H

theorem wp_stO {α : Type} {Q : α → sProp 𝕄} {M : Memref sig .tc .smem S1 .f32} {o : Vec F S1 .f32} {w : F .f32}
    {hin : ∀ a, (![0] : Fin 1 → Nat) a + S1.size a ≤ S1.size a} {hs : (M.access (Rect.unit (s := S1) ![0] S1.size hin)).Stores Finset.univ}
    {hm} {k : PUnit → Prog (TpuEff nD τ sig (Elt F) Λ₀ (SparseCore.T d).2) α} :
    owns (SparseCore.T d) M fullShare o ⊢ iprop((owns (SparseCore.T d) M fullShare (fun _ => w) -∗ wp frame (wpE (defs₀ (F := F)) 𝒱₀ (SparseCore.T d) none) Set.univ (k ⟨⟩) Q)
      -∗ wp frame (wpE (defs₀ (F := F)) 𝒱₀ (SparseCore.T d) none) Set.univ (.op (.store M (Rect.unit (s := S1) ![0] S1.size hin) (fun _ => w) Finset.univ hs hm) k) Q) := by
  unfold owns
  iintro ⟨%f, %hf, H⟩ Hk
  have hsub : (M.access (Rect.unit (s := S1) ![0] S1.size hin)).setOn Finset.univ ⊆ M.view.set := by
    rw [View.setOn_univ]; exact View.set_slice_subset _ _
  iapply (wp_store (defs := defs₀ (F := F)) 𝒱₀ (SparseCore.T d) none Set.univ (m := M) (r := Rect.unit (s := S1) ![0] S1.size hin) (Mk := Finset.univ) (S := M.view.set)
    (w := fun _ => w) (f := f) (hx := hs) (hm := hm) (k := k) hsub) $$ H
  iintro H
  iapply Hk
  iexists _
  isplitr
  rotate_left
  · iexact H
  · ipureintro
    funext y
    have e : M.view.emb y = (M.access (Rect.unit (s := S1) ![0] S1.size hin)).emb y := by
      show M.view.emb y = M.view.emb _
      congr 1
      funext a
      apply Fin.ext
      obtain rfl : a = 0 := Subsingleton.elim _ _
      show (y 0).val = 0 + 1 * (y 0).val
      omega
    have e2 : ∀ g, M.view.read (Elt F) g y = (M.access (Rect.unit (s := S1) ![0] S1.size hin)).read (Elt F) g y := fun g => by
      rw [View.read_apply, e]; rfl
    rw [e2, View.read_write_univ]

end Cert.Proof.K
-- ==== Proof.NllParts.lean ====
/-
  The parts of one grid point's body, each with the values it is handed and the values it leaves.
-/
module

public import proofs.«01_k».proof.Proof.NllOps

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Fin nD)

set_option maxRecDepth 8192 in
theorem wp_part1 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : Vec F S1x19x256x512 .f32} {t : Vec F S1x256x512 .i32}
    {k : (Σ' (_ : BitVec 32) (_ : BitVec 32) (_ : FVec F S19x256x512 .f32) (_ : IVec S256x512 32) (_ : FVec F S256x512 .f32) (_ : F .f32), Elt F .f32) → Prog (TpuEff nD τ sig (Elt F) Λ₀ (SparseCore.T d).2) α} :
    iprop(owns (SparseCore.T d) arg2 fullShare b ∗ owns (SparseCore.T d) arg3 fullShare x ∗ owns (SparseCore.T d) arg4 fullShare t)
     ⊢ iprop((iprop(owns (SparseCore.T d) arg2 fullShare b ∗ owns (SparseCore.T d) arg3 fullShare x ∗ owns (SparseCore.T d) arg4 fullShare t)
        -∗ wp frame (wpE (defs₀ (F := F)) 𝒱₀ (SparseCore.T d) none) Set.univ (k ⟨BitVec.ofNat 32 (i 0).val, BitVec.ofNat 32 (i 1).val, xBlk x, tBlk t, lseBlk (xBlk x), totalTo b 13, binAt b 14⟩) Q)
      -∗ wp frame (wpE (defs₀ (F := F)) 𝒱₀ (SparseCore.T d) none) Set.univ (k1_part1 (F := F) i arg2 harg2 arg3 harg3 arg4 harg4 arg5 harg5 arg6 harg6 >>= k) Q) := by
  rw [k1_part1_eq_skeleton]; unfold k1_part1_skel
  simp only [Prog.lift, Prog.bind_op, Prog.bind_ret, Prog.pure_eq_ret, Prog.bind_assoc]
  iintro ⟨HB, HX, HT⟩ Hk
  iapply wp_ldX d $$ HX
  iintro HX
  iapply wp_ldT d $$ HT
  iintro HT
  iapply wp_ldB d 0 $$ HB
  iintro HB
  iapply wp_ldB d 1 $$ HB
  iintro HB
  iapply wp_ldB d 2 $$ HB
  iintro HB
  iapply wp_ldB d 3 $$ HB
  iintro HB
  iapply wp_ldB d 4 $$ HB
  iintro HB
  iapply wp_ldB d 5 $$ HB
  iintro HB
  iapply wp_ldB d 6 $$ HB
  iintro HB
  iapply wp_ldB d 7 $$ HB
  iintro HB
  iapply wp_ldB d 8 $$ HB
  iintro HB
  iapply wp_ldB d 9 $$ HB
  iintro HB
  iapply wp_ldB d 10 $$ HB
  iintro HB
  iapply wp_ldB d 11 $$ HB
  iintro HB
  iapply wp_ldB d 12 $$ HB
  iintro HB
  iapply wp_ldB d 13 $$ HB
  iintro HB
  iapply wp_ldB d 14 $$ HB
  iintro HB
  iapply Hk $$ [HB HX HT]
  isplitl [HB]; · iexact HB
  isplitl [HX]; · iexact HX
  iexact HT

set_option maxRecDepth 8192 in
theorem wp_part2 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : FVec F S19x256x512 .f32} {t : IVec S256x512 32}
    {k : (Σ' (_ : F .f32) (_ : FVec F S256x512 .f32) (_ : FVec F S256x512 .f32) (_ : BitVec 1), F .f32) → Prog (TpuEff nD τ sig (Elt F) Λ₀ (SparseCore.T d).2) α} :
    owns (SparseCore.T d) arg2 fullShare b
     ⊢ iprop((owns (SparseCore.T d) arg2 fullShare b
        -∗ wp frame (wpE (defs₀ (F := F)) 𝒱₀ (SparseCore.T d) none) Set.univ (k ⟨(totalTo b 18), (wselAt b (totalTo b 18) t 2), (pickedAt x t 2), (Scalar.cmpf .one (binAt b 2) (Scalar.ofBits .f32 0x00000000#32)), (Scalar.divf (binAt b 2) (totalTo b 18))⟩) Q)
      -∗ wp frame (wpE (defs₀ (F := F)) 𝒱₀ (SparseCore.T d) none) Set.univ (k1_part2 (F := F) i arg2 harg2 arg3 harg3 arg4 harg4 arg5 harg5 arg6 harg6 x t (totalTo b 13) (binAt b 14) >>= k) Q) := by
  rw [k1_part2_eq_skeleton]; unfold k1_part2_skel
  simp only [Prog.lift, Prog.bind_op, Prog.bind_ret, Prog.pure_eq_ret, Prog.bind_assoc]
  iintro HB Hk
  iapply wp_ldB d 15 $$ HB
  iintro HB
  iapply wp_ldB d 16 $$ HB
  iintro HB
  iapply wp_ldB d 17 $$ HB
  iintro HB
  iapply wp_ldB d 18 $$ HB
  iintro HB
  iapply wp_ldB d 0 $$ HB
  iintro HB
  iapply wp_ldB d 1 $$ HB
  iintro HB
  iapply wp_ldB d 2 $$ HB
  iintro HB
  iapply Hk $$ HB

set_option maxRecDepth 8192 in
theorem wp_part3 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : FVec F S19x256x512 .f32} {t : IVec S256x512 32}
    {k : (Σ' (_ : FVec F S256x512 .f32) (_ : FVec F S256x512 .f32) (_ : BitVec 1) (_ : F .f32), F .f32) → Prog (TpuEff nD τ sig (Elt F) Λ₀ (SparseCore.T d).2) α} :
    owns (SparseCore.T d) arg2 fullShare b
     ⊢ iprop((owns (SparseCore.T d) arg2 fullShare b
        -∗ wp frame (wpE (defs₀ (F := F)) 𝒱₀ (SparseCore.T d) none) Set.univ (k ⟨(wselAt b (totalTo b 18) t 5), (pickedAt x t 5), (Scalar.cmpf .one (binAt b 5) (Scalar.ofBits .f32 0x00000000#32)), (Scalar.subf (Scalar.ofBits .f32 0x3F800000#32) (Scalar.divf (binAt b 5) (totalTo b 18))), (Scalar.ofBits .f32 0x00000000#32)⟩) Q)
      -∗ wp frame (wpE (defs₀ (F := F)) 𝒱₀ (SparseCore.T d) none) Set.univ (k1_part3 (F := F) i arg2 harg2 arg3 harg3 arg4 harg4 arg5 harg5 arg6 harg6 x t (totalTo b 18) (wselAt b (totalTo b 18) t 2) (pickedAt x t 2) (Scalar.cmpf .one (binAt b 2) (Scalar.ofBits .f32 0x00000000#32)) (Scalar.divf (binAt b 2) (totalTo b 18)) >>= k) Q) := by
  rw [k1_part3_eq_skeleton]; unfold k1_part3_skel
  simp only [Prog.lift, Prog.bind_op, Prog.bind_ret, Prog.pure_eq_ret, Prog.bind_assoc]
  iintro HB Hk
  iapply wp_ldB d 3 $$ HB
  iintro HB
  iapply wp_ldB d 4 $$ HB
  iintro HB
  iapply wp_ldB d 5 $$ HB
  iintro HB
  iapply Hk $$ HB

set_option maxRecDepth 8192 in
theorem wp_part4 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : FVec F S19x256x512 .f32} {t : IVec S256x512 32}
    {k : (Σ' (_ : FVec F S256x512 .f32) (_ : FVec F S256x512 .f32), F .f32) → Prog (TpuEff nD τ sig (Elt F) Λ₀ (SparseCore.T d).2) α} :
    owns (SparseCore.T d) arg2 fullShare b
     ⊢ iprop((owns (SparseCore.T d) arg2 fullShare b
        -∗ wp frame (wpE (defs₀ (F := F)) 𝒱₀ (SparseCore.T d) none) Set.univ (k ⟨(wselAt b (totalTo b 18) t 8), (pickedAt x t 8), (wcls b (totalTo b 18) 8)⟩) Q)
      -∗ wp frame (wpE (defs₀ (F := F)) 𝒱₀ (SparseCore.T d) none) Set.univ (k1_part4 (F := F) i arg2 harg2 arg3 harg3 arg4 harg4 arg5 harg5 arg6 harg6 x t (totalTo b 18) (wselAt b (totalTo b 18) t 5) (pickedAt x t 5) (Scalar.cmpf .one (binAt b 5) (Scalar.ofBits .f32 0x00000000#32)) (Scalar.subf (Scalar.ofBits .f32 0x3F800000#32) (Scalar.divf (binAt b 5) (totalTo b 18))) (Scalar.ofBits .f32 0x00000000#32) >>= k) Q) := by
  rw [k1_part4_eq_skeleton]; unfold k1_part4_skel
  simp only [Prog.lift, Prog.bind_op, Prog.bind_ret, Prog.pure_eq_ret, Prog.bind_assoc]
  iintro HB Hk
  iapply wp_ldB d 6 $$ HB
  iintro HB
  iapply wp_ldB d 7 $$ HB
  iintro HB
  iapply wp_ldB d 8 $$ HB
  iintro HB
  iapply Hk $$ HB

set_option maxRecDepth 8192 in
theorem wp_part5 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : FVec F S19x256x512 .f32} {t : IVec S256x512 32}
    {k : (Σ' (_ : FVec F S256x512 .f32) (_ : FVec F S256x512 .f32) (_ : F .f32), IVec S256x512 1) → Prog (TpuEff nD τ sig (Elt F) Λ₀ (SparseCore.T d).2) α} :
    owns (SparseCore.T d) arg2 fullShare b
     ⊢ iprop((owns (SparseCore.T d) arg2 fullShare b
        -∗ wp frame (wpE (defs₀ (F := F)) 𝒱₀ (SparseCore.T d) none) Set.univ (k ⟨(wselAt b (totalTo b 18) t 11), (pickedAt x t 11), (wcls b (totalTo b 18) 11), (isCls t 11)⟩) Q)
      -∗ wp frame (wpE (defs₀ (F := F)) 𝒱₀ (SparseCore.T d) none) Set.univ (k1_part5 (F := F) i arg2 harg2 arg3 harg3 arg4 harg4 arg5 harg5 arg6 harg6 x t (totalTo b 18) (wselAt b (totalTo b 18) t 8) (pickedAt x t 8) (wcls b (totalTo b 18) 8) >>= k) Q) := by
  rw [k1_part5_eq_skeleton]; unfold k1_part5_skel
  simp only [Prog.lift, Prog.bind_op, Prog.bind_ret, Prog.pure_eq_ret, Prog.bind_assoc]
  iintro HB Hk
  iapply wp_ldB d 9 $$ HB
  iintro HB
  iapply wp_ldB d 10 $$ HB
  iintro HB
  iapply wp_ldB d 11 $$ HB
  iintro HB
  iapply Hk $$ HB

set_option maxRecDepth 8192 in
theorem wp_part6 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : FVec F S19x256x512 .f32} {t : IVec S256x512 32}
    {k : (Σ' (_ : FVec F S256x512 .f32) (_ : IVec S256x512 1) (_ : FVec F S256x512 .f32), FVec F S1x256x512 .f32) → Prog (TpuEff nD τ sig (Elt F) Λ₀ (SparseCore.T d).2) α} :
    owns (SparseCore.T d) arg2 fullShare b
     ⊢ iprop((owns (SparseCore.T d) arg2 fullShare b
        -∗ wp frame (wpE (defs₀ (F := F)) 𝒱₀ (SparseCore.T d) none) Set.univ (k ⟨(pickedAt x t 14), (isCls t 14), (wselAt b (totalTo b 18) t 15), (extractStridedSlice S1x256x512 ![14, 0, 0] x slices_S19x256x512_o14_0_0_S1x256x512)⟩) Q)
      -∗ wp frame (wpE (defs₀ (F := F)) 𝒱₀ (SparseCore.T d) none) Set.univ (k1_part6 (F := F) i arg2 harg2 arg3 harg3 arg4 harg4 arg5 harg5 arg6 harg6 x t (totalTo b 18) (wselAt b (totalTo b 18) t 11) (pickedAt x t 11) (wcls b (totalTo b 18) 11) (isCls t 11) >>= k) Q) := by
  rw [k1_part6_eq_skeleton]; unfold k1_part6_skel
  simp only [Prog.lift, Prog.bind_op, Prog.bind_ret, Prog.pure_eq_ret, Prog.bind_assoc]
  iintro HB Hk
  iapply wp_ldB d 12 $$ HB
  iintro HB
  iapply wp_ldB d 13 $$ HB
  iintro HB
  iapply wp_ldB d 14 $$ HB
  iintro HB
  iapply Hk $$ HB

set_option maxRecDepth 8192 in
theorem wp_part7 {α : Type} {Q : α → sProp 𝕄} {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole} {arg6 : Memref sig .tc .smem S3 .f32} {harg6 : arg6.IsWhole} {b : Vec F S19 .f32} {x : FVec F S19x256x512 .f32} {t : IVec S256x512 32}
    {k : (Σ' (_ : FVec F S256x512 .f32), FVec F S256x512 .f32) → Prog (TpuEff nD τ sig (Elt F) Λ₀ (SparseCore.T d).2) α} :
    owns (SparseCore.T d) arg2 fullShare b
     ⊢ iprop((owns (SparseCore.T d) arg2 fullShare b
        -∗ wp frame (wpE (defs₀ (F := F)) 𝒱₀ (SparseCore.T d) none) Set.univ (k ⟨(wselAt b (totalTo b 18) t 18), (pickedAt x t 18)⟩) Q)
      -∗ wp frame (wpE (defs₀ (F := F)) 𝒱₀ (SparseCore.T d) none) Set.univ (k1_part7 (F := F) i arg2 harg2 arg3 harg3 arg4 harg4 arg5 harg5 arg6 harg6 x t (totalTo b 18) (pickedAt x t 14) (isCls t 14) (wselAt b (totalTo b 18) t 15) (extractStridedSlice S1x256x512 ![14, 0, 0] x slices_S19x256x512_o14_0_0_S1x256x512) >>= k) Q) := by
  rw [k1_part7_eq_skeleton]; unfold k1_part7_skel
  simp only [Prog.lift, Prog.bind_op, Prog.bind_ret, Prog.pure_eq_ret, Prog.bind_assoc]
  iintro HB Hk
  iapply wp_ldB d 15 $$ HB
  iintro HB
  iapply wp_ldB d 16 $$ HB
  iintro HB
  iapply wp_ldB d 17 $$ HB
  iintro HB
  iapply Hk $$ HB

end Cert.Proof.K
-- ==== Proof.NllRun.lean ====
/-
  One grid point's whole run.
-/
module

public import proofs.«01_k».proof.Proof.NllParts

@[expose] public section

noncomputable section

namespace Cert.Proof.K

open Cert.KernelIdeal Cert.KernelIdeal.Gen
open Idealize.ShloMosaic
open Idealize.ShloMosaic.SparseCore (V)
open Idealize.ShloMosaic.SparseCore.Cfg (HIx)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Fin nD)

theorem cond_eq : ∀ n c : Fin 8, (Scalar.cmpi .ne (Scalar.extui (Scalar.cmpi .eq (BitVec.ofNat 32 n.val) (BitVec.ofNat 32 c.val)) : BitVec 32) 0#32 = 1#1) ↔ n.val = c.val := by decide
theorem cond_ne : ∀ n c : Fin 8, (Scalar.cmpi .ne (Scalar.extui (Scalar.cmpi .ne (BitVec.ofNat 32 n.val) (BitVec.ofNat 32 c.val)) : BitVec 32) 0#32 = 1#1) ↔ n.val ≠ c.val := by decide

set_option maxRecDepth 8192 in
/-- One grid point's body, from its blocks, the class counts and the three scalars. -/
theorem body_run {i : grid1.Coords} {arg2 : Memref sig .tc .smem S19 .f32} {harg2 : arg2.IsWhole} {arg3 : Memref sig .tc .vmem S1x19x256x512 .f32} {harg3 : arg3.IsWhole} {arg4 : Memref sig .tc .vmem S1x256x512 .i32} {harg4 : arg4.IsWhole} {arg5 : Memref sig .tc .smem S1 .f32} {harg5 : arg5.IsWhole}
    {b : Vec F S19 .f32} {x : Vec F S1x19x256x512 .f32} {t : Vec F S1x256x512 .i32} {o : Vec F S1 .f32} {f : Vec F S3 .f32} :
    iprop(owns (SparseCore.T d) arg2 fullShare b ∗ owns (SparseCore.T d) arg3 fullShare x ∗ owns (SparseCore.T d) arg4 fullShare t ∗ owns (SparseCore.T d) arg5 fullShare o ∗ accPts d f)
     ⊢ wp frame (wpE (defs₀ (F := F)) 𝒱₀ (SparseCore.T d) none) Set.univ (cc1__nll_body (F := F) i arg2 harg2 arg3 harg3 arg4 harg4 arg5 harg5 sA (Memref.isWhole_whole _)) fun _ =>
        iprop(owns (SparseCore.T d) arg2 fullShare b ∗ owns (SparseCore.T d) arg3 fullShare x ∗ owns (SparseCore.T d) arg4 fullShare t
          ∗ owns (SparseCore.T d) arg5 fullShare (outNext (i 0).val (i 1).val (accNext (i 0).val (i 1).val (numBlk b x t) (denBlk b t) f) o)
          ∗ accPts d (accNext (i 0).val (i 1).val (numBlk b x t) (denBlk b t) f)) := by
  have hi0 : (i 0).val < 8 := (i 0).isLt
  have hi1 : (i 1).val < 2 := (i 1).isLt
  have q1 : (Scalar.cmpi .ne (Scalar.extui (Scalar.cmpi .eq (BitVec.ofNat 32 (i 1).val) 0#32) : BitVec 32) 0#32 = 1#1) = ((i 1).val = 0) := propext (cond_eq ⟨(i 1).val, by omega⟩ 0)
  have q2 : (Scalar.cmpi .ne (Scalar.extui (Scalar.cmpi .ne (BitVec.ofNat 32 (i 1).val) 0#32) : BitVec 32) 0#32 = 1#1) = ((i 1).val ≠ 0) := propext (cond_ne ⟨(i 1).val, by omega⟩ 0)
  have q3 : (k1_cond3 i = 1#1) = ((i 1).val = 1) := propext (cond_eq ⟨(i 1).val, by omega⟩ 1)
  have q4 : (Scalar.cmpi .ne (Scalar.extui (Scalar.cmpi .eq (BitVec.ofNat 32 (i 0).val) 0#32) : BitVec 32) 0#32 = 1#1) = ((i 0).val = 0) := propext (cond_eq ⟨(i 0).val, by omega⟩ 0)
  have q5 : (Scalar.cmpi .ne (Scalar.extui (Scalar.cmpi .ne (BitVec.ofNat 32 (i 0).val) 0#32) : BitVec 32) 0#32 = 1#1) = ((i 0).val ≠ 0) := propext (cond_ne ⟨(i 0).val, by omega⟩ 0)
  have q6 : (k1_cond6 i = 1#1) = ((i 0).val = 7) := propext (cond_eq ⟨(i 0).val, by omega⟩ 7)
  rw [cc1__nll_body_eq_skeleton]; unfold cc1__nll_body_skel
  iintro ⟨HB, HX, HT, HO, HA⟩
  iapply wp_part1 d $$ [HB HX HT]
  · isplitl [HB]; · iexact HB
    isplitl [HX]; · iexact HX
    iexact HT
  iintro ⟨HB, HX, HT⟩
  iapply wp_part2 d $$ HB
  iintro HB
  iapply wp_part3 d $$ HB
  iintro HB
  iapply wp_part4 d $$ HB
  iintro HB
  iapply wp_part5 d $$ HB
  iintro HB
  iapply wp_part6 d $$ HB
  iintro HB
  iapply wp_part7 d $$ HB
  iintro HB
  simp only [Prog.lift, Prog.bind_op, Prog.bind_ret, Prog.pure_eq_ret, Prog.bind_assoc]
  iapply wp_ldB d 18 $$ HB
  iintro HB
  by_cases h1 : (i 1).val = 0
  · simp only [q1.trans (eq_true h1), q2.trans (eq_false (not_not_intro h1)), q3.trans (eq_false (by omega)), ↓reduceDIte, Prog.lift, Prog.bind_op, Prog.bind_ret, Prog.pure_eq_ret, Prog.bind_assoc]
    iapply wp_ldA d 0 $$ HA
    iintro HA
    iapply wp_stA d 0 $$ HA
    iintro HA
    iapply wp_ldA d 1 $$ HA
    iintro HA
    iapply wp_stA d 1 $$ HA
    iintro HA
    rw [wp_ret]
    imodintro
    isplitl [HB]; · iexact HB
    isplitl [HX]; · iexact HX
    isplitl [HT]; · iexact HT
    isplitl [HO]
    · refine Entails.of_eq (congrArg (owns (SparseCore.T d) arg5 fullShare) ?_)
      unfold outNext; rw [if_neg (by omega)]
    refine Entails.of_eq (congrArg (accPts d) ?_)
    unfold accNext; rw [if_pos h1]; rfl
  · have h1' : (i 1).val = 1 := by omega
    simp only [q1.trans (eq_false h1), q2.trans (eq_true h1), q3.trans (eq_true h1'), ↓reduceDIte, Prog.lift, Prog.bind_op, Prog.bind_ret, Prog.pure_eq_ret, Prog.bind_assoc]
    iapply wp_ldA d 0 $$ HA
    iintro HA
    iapply wp_ldA d 0 $$ HA
    iintro HA
    iapply wp_stA d 0 $$ HA
    iintro HA
    iapply wp_ldA d 1 $$ HA
    iintro HA
    iapply wp_ldA d 1 $$ HA
    iintro HA
    iapply wp_stA d 1 $$ HA
    iintro HA
    iapply wp_ldA d 0 $$ HA
    iintro HA
    iapply wp_ldA d 1 $$ HA
    iintro HA
    by_cases h0 : (i 0).val = 0
    · simp only [q4.trans (eq_true h0), q5.trans (eq_false (not_not_intro h0)), q6.trans (eq_false (by omega)), ↓reduceDIte, Prog.lift, Prog.bind_op, Prog.bind_ret, Prog.pure_eq_ret, Prog.bind_assoc]
      iapply wp_ldA d 2 $$ HA
      iintro HA
      iapply wp_stA d 2 $$ HA
      iintro HA
      rw [wp_ret]
      imodintro
      isplitl [HB]; · iexact HB
      isplitl [HX]; · iexact HX
      isplitl [HT]; · iexact HT
      isplitl [HO]
      · refine Entails.of_eq (congrArg (owns (SparseCore.T d) arg5 fullShare) ?_)
        unfold outNext; rw [if_neg (by omega)]
      refine Entails.of_eq (congrArg (accPts d) ?_)
      unfold accNext; rw [if_neg h1, if_pos h0]; rfl
    · simp only [q4.trans (eq_false h0), q5.trans (eq_true h0), ↓reduceDIte, Prog.lift, Prog.bind_op, Prog.bind_ret, Prog.pure_eq_ret, Prog.bind_assoc]
      iapply wp_ldA d 2 $$ HA
      iintro HA
      iapply wp_ldA d 2 $$ HA
      iintro HA
      iapply wp_stA d 2 $$ HA
      iintro HA
      by_cases h7 : (i 0).val = 7
      · simp only [q6.trans (eq_true h7), ↓reduceDIte, Prog.lift, Prog.bind_op, Prog.bind_ret, Prog.pure_eq_ret, Prog.bind_assoc]
        iapply wp_ldA d 2 $$ HA
        iintro HA
        iapply wp_ldO d $$ HO
        iintro %z HO
        iapply wp_stO d $$ HO
        iintro HO
        rw [wp_ret]
        imodintro
        isplitl [HB]; · iexact HB
        isplitl [HX]; · iexact HX
        isplitl [HT]; · iexact HT
        isplitl [HO]
        · refine Entails.of_eq (congrArg (owns (SparseCore.T d) arg5 fullShare) ?_)
          unfold outNext accNext; rw [if_pos ⟨h1', h7⟩, if_neg h1, if_neg h0]; rfl
        refine Entails.of_eq (congrArg (accPts d) ?_)
        unfold accNext; rw [if_neg h1, if_neg h0]; rfl
      · simp only [q6.trans (eq_false h7), ↓reduceDIte, Prog.lift, Prog.bind_op, Prog.bind_ret, Prog.pure_eq_ret, Prog.bind_assoc]
        rw [wp_ret]
        imodintro
        isplitl [HB]; · iexact HB
        isplitl [HX]; · iexact HX
        isplitl [HT]; · iexact HT
        isplitl [HO]
        · refine Entails.of_eq (congrArg (owns (SparseCore.T d) arg5 fullShare) ?_)
          unfold outNext; rw [if_neg (fun h => h7 h.2)]
        refine Entails.of_eq (congrArg (accPts d) ?_)
        unfold accNext; rw [if_neg h1, if_neg h0]; rfl

end Cert.Proof.K
-- ==== Proof.Region.lean ====
/-
  The TensorCore call as one region of @main, from any contents `V` of the device's arrays: what its sixteen points
  leave in the three running scalars, its proof data, and the region itself. It leaves every array as it was but the
  result, whose one place gets the loss.
-/
module

public import proofs.«01_k».proof.Proof.NllRun
public import Idealize.ShloMosaic.Lib.Pipeline.FrameBody
public import Idealize.ShloMosaic.Lib.Pipeline.RegionsLoop
public import Idealize.ShloMosaic.Lib.Pipeline.ValueKit.Geometry

@[expose] public section

noncomputable section

namespace Cert.Proof.K

open Cert.KernelIdeal Cert.KernelIdeal.Gen

open Idealize.ShloMosaic
open Idealize.ShloMosaic.SparseCore (V)
open Idealize.ShloMosaic.SparseCore.Cfg (HIx)
open Idealize.ShloMosaic.ValueIdx (ix1 ix2 ix3)
open Idealize.ShloMosaic.Pipeline (Dat Cfg BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (W : (c : Dev nD) → (b : Ref sig .tc) → Buf (Elt F) ((SparseCore.T c : Thread nD τ).loc b))

/-! ## What the points find and leave -/

/-- The bins, the logits' block and the classes' block at point `t`. -/
abbrev bAt (c : Dev nD) (t : Fin cfg1.N) : Vec F S19 .f32 := ((cfg1.win 0).blk t).view.read (Elt F) (W c main_v2)
abbrev xAt (c : Dev nD) (t : Fin cfg1.N) : Vec F S1x19x256x512 .f32 := ((cfg1.win 1).blk t).view.read (Elt F) (W c main_arg0)
abbrev tAt (c : Dev nD) (t : Fin cfg1.N) : Vec F S1x256x512 .i32 := ((cfg1.win 2).blk t).view.read (Elt F) (W c main_arg1)

/-- The three scalars before point `n`, from `f` before the first. -/
def accAt (c : Dev nD) (f : Vec F S3 .f32) : Nat → Vec F S3 .f32
  | 0 => f
  | n + 1 => if h : n < cfg1.N then
      accNext (n / 2) (n % 2) (numBlk (bAt W c ⟨n, h⟩) (xAt W c ⟨n, h⟩) (tAt W c ⟨n, h⟩)) (denBlk (bAt W c ⟨n, h⟩) (tAt W c ⟨n, h⟩)) (accAt c f n)
    else accAt c f n

theorem accAt_succ (c : Dev nD) (f : Vec F S3 .f32) (t : Fin cfg1.N) : accAt W c f (t.val + 1)
    = accNext (t.val / 2) (t.val % 2) (numBlk (bAt W c t) (xAt W c t) (tAt W c t)) (denBlk (bAt W c t) (tAt W c t)) (accAt W c f t.val) := by
  show (if h : t.val < cfg1.N then _ else _) = _
  rw [dif_pos t.isLt]

theorem put_self (f : Vec F S3 .f32) (n : Fin 3) (w : F .f32) : put f n w (ix1 n) = w := if_pos rfl
theorem put_ne (f : Vec F S3 .f32) {n k : Fin 3} (w : F .f32) (h : k.val ≠ n.val) : put f n w (ix1 k) = f (ix1 k) := if_neg h

theorem ext3 {f g : Vec F S3 .f32} (h0 : f (ix1 0) = g (ix1 0)) (h1 : f (ix1 1) = g (ix1 1)) (h2 : f (ix1 2) = g (ix1 2)) : f = g := by
  funext x
  obtain ⟨k, rfl⟩ : ∃ k : Fin 3, x = ix1 k := ⟨x 0, by funext a; fin_cases a; rfl⟩
  fin_cases k
  · exact h0
  · exact h1
  · exact h2

/-- The first image's two blocks write all three scalars: what they held at the start is gone. -/
theorem acc_forget (u v u' v' : F .f32) (f g : Vec F S3 .f32) : accNext 0 1 u' v' (accNext 0 0 u v f) = accNext 0 1 u' v' (accNext 0 0 u v g) := by
  apply ext3 <;> rfl

theorem accAt_two (c : Dev nD) (f g : Vec F S3 .f32) : accAt W c f 2 = accAt W c g 2 := by
  have e := fun f => (accAt_succ W c f t1_1).trans (congrArg _ (accAt_succ W c f t1_0))
  exact (e f).trans ((acc_forget _ _ _ _ _ _).trans (e g).symm)

theorem accAt_indep (c : Dev nD) (f g : Vec F S3 .f32) : ∀ n, accAt W c f (n + 2) = accAt W c g (n + 2)
  | 0 => accAt_two W c f g
  | n + 1 => by
    show (if h : n + 2 < cfg1.N then _ else _) = (if h : n + 2 < cfg1.N then _ else _)
    rw [accAt_indep c f g n]

/-- The loss: what the third scalar holds after the last point. -/
def lossOf (c : Dev nD) : F .f32 := accAt W c (fun _ => Scalar.ofBits .f32 0x00000000#32) 16 (ix1 2)

theorem coord0 : ∀ t : Fin grid1.N, (grid1.coords t 0).val = t.val / 2 := by decide +kernel
theorem coord1 : ∀ t : Fin grid1.N, (grid1.coords t 1).val = t.val % 2 := by decide +kernel
theorem idle_3 : ∀ t : Fin cfg1.N, t.val ≠ 15 → cfg1.idle 3 (cfg1.grid.coords t) = true := by
  exact (by decide +kernel : ∀ t : Fin grid1.N, t.val ≠ 15 → idle1 3 (grid1.coords t) = true)
theorem idle_3' : ∀ t : Fin cfg1.N, t.val = 15 → cfg1.idle 3 (cfg1.grid.coords t) = false := by
  exact (by decide +kernel : ∀ t : Fin grid1.N, t.val = 15 → idle1 3 (grid1.coords t) = false)

/-! ## The proof data -/

/-- The waits the device's TensorCore may have recorded after the SparseCore call. -/
def recd (c : Dev nD) : Set (SemLoc sig × HIx 1) := {p | (K (F := F)).lev (SparseCore.T c, p.1) p.2 ≤ 8 * SparseCore.Cfg.Blocks.fst 1 1 1}

def dat (c : Dev nD) : Dat τ (Elt F) (HIx 1) ℕ UU ℕ cfg1 c where
  A w := W c (Pipeline.arrRef spec1 w)
  after w t := match w with
    | ⟨0, _⟩ => bAt W c t
    | ⟨1, _⟩ => xAt W c t
    | ⟨2, _⟩ => tAt W c t
    | ⟨3, _⟩ => fun _ => lossOf W c
  Φ n := iprop(∃ f, accPts c (accAt W c f n.val))
  q _ := fullShare
  owed _ := 0
  recorded _ := recd (F := F) c

theorem before0 (c : Dev nD) (t : Fin cfg1.N) (d) : (dat W c).before 0 t d = bAt W c t :=
  (dat W c).before_in_eq_fetched 0 rfl (fun _ => rfl) (fun _ _ _ => rfl) (fun _ => rfl) t d
theorem before1 (c : Dev nD) (t : Fin cfg1.N) (d) : (dat W c).before 1 t d = xAt W c t :=
  (dat W c).before_in_eq_fetched 1 rfl (fun _ => rfl) (fun _ _ _ => rfl) (fun _ => rfl) t d
theorem before2 (c : Dev nD) (t : Fin cfg1.N) (d) : (dat W c).before 2 t d = tAt W c t :=
  (dat W c).before_in_eq_fetched 2 rfl (fun _ => rfl) (fun _ _ _ => rfl) (fun _ => rfl) t d

theorem leaves_last (c : Dev nD) (t : Fin cfg1.N) (h : t.val = 15) :
    (dat W c).leavesExact 3 t = owns (SparseCore.T c) (st1_3 t) fullShare ((dat W c).after 3 t) := by
  unfold Dat.leavesExact; rw [idle_3' t h]

theorem body_obligation (c : Dev nD) : BodyObligation (dat W c) (defs₀ (F := F)) 𝒱₀ none Set.univ := fun t => by
  rw [bigSep_W1, bigSep_W1]
  rw [show (dat W c).owesAt none t.succ = (dat W c).owesAt none t.castSucc from rfl]
  rw [show (dat W c).Φ t.castSucc = iprop(∃ f, accPts c (accAt W c f t.val)) from rfl,
    show (dat W c).Φ t.succ = iprop(∃ f, accPts c (accAt W c f (t.val + 1))) from rfl]
  iintro ⟨⟨%f, HA⟩, HO, ⟨%d0, H0⟩, ⟨%d1, H1⟩, ⟨%d2, H2⟩, ⟨%d3, H3⟩⟩
  rw [before0, before1, before2]
  iapply wp_wand_r
  isplitl [HA H0 H1 H2 H3]
  · iapply (body_run c (i := grid1.coords t))
    isplitl [H0]; · iexact H0
    isplitl [H1]; · iexact H1
    isplitl [H2]; · iexact H2
    isplitl [H3]; · iexact H3
    iexact HA
  rw [coord0, coord1, ← accAt_succ]
  iintro %_ ⟨H0, H1, H2, H3, HA⟩
  isplitl [HA]; · iexists f; iexact HA
  isplitl [HO]; · iexact HO
  isplitl [H0]; · iexact H0
  isplitl [H1]; · iexact H1
  isplitl [H2]; · iexact H2
  by_cases h : t.val = 15
  · refine BI.Entails.trans ?_ (Entails.of_eq (leaves_last W c t h).symm)
    refine Entails.of_eq (congrArg (owns (SparseCore.T c) (st1_3 t) fullShare) ?_)
    unfold outNext
    rw [if_pos (by omega), h]
    dsimp only [dat]
    exact funext fun _ => congrFun (accAt_indep W c f (fun _ => Scalar.ofBits .f32 0x00000000#32) 14) (ix1 2)
  · refine BIBase.Entails.trans ?_ (Entails.of_eq ((dat W c).leavesExact_idle 3 t (idle_3 t h) ?_).symm)
    · iintro H
      iexists d3
      refine Entails.of_eq (congrArg (owns (SparseCore.T c) (st1_3 t) fullShare) ?_)
      unfold outNext
      have := t.isLt
      have hN : cfg1.N = 16 := N_1
      rw [if_neg (by omega)]
    · have := t.isLt
      have hN : cfg1.N = 16 := N_1
      exact Bool.eq_false_iff.mpr fun hf => absurd ((flush1_3 t).mp hf) (by omega)

/-! ## The region -/

abbrev adm : (p : Fin 1) → (pcfgs (F := F) p).Adm := fun p => (cfgs p).toPCfg_adm

/-- The proof data, for the one pipeline. -/
def pdats : (p : Fin 1) → (c : Dev nD) → Dat τ (Elt F) (HIx 1) ℕ UU ℕ (Pipeline.pin (pcfgs (F := F)) adm p) c
  | ⟨0, _⟩ => fun c => dat W c

/-- The arrays after the region: the result's one place at the loss. -/
def Wout : (c : Dev nD) → (b : Ref sig .tc) → Buf (Elt F) ((SparseCore.T c : Thread nD τ).loc b) :=
  fun c => Function.update (W c) main_v3 (fun _ => lossOf W c)

theorem out_eq (c : Dev nD) : (dat W c).arrAt 3 cfg1.N = (fun _ => lossOf W c) := by
  refine (dat W c).arrAt_eq_of_covers 3 _ (by decide +kernel) fun t hf y => ?_
  dsimp only [dat]
  rfl

set_option backward.isDefEq.respectTransparency.types false in
/-- The region, from the device's arrays at `W` and its waits within the bound, to the arrays at `Wout`. -/
def reg : Pipeline.RegionSeg (pcfgs (F := F)) adm (pdats W) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation W c).loose
  hwaits := Pipeline.hwaits_of_owed_zero _ _ _ _ (K (F := F)).L (K (F := F)).lev 0 fun _ _ => rfl
  pre c := iprop(unscopedBufs c (W c) ∗ ∃ M, ⌜(K (F := F)).WBelow (SparseCore.T c) M (8 * SparseCore.Cfg.Blocks.fst 1 1 1)⌝ ∗ owes (SparseCore.T c) (0 : CellTallies nD τ sig (HIx 1)) M)
  post c := iprop(unscopedBufs c (Wout W c) ∗ ∃ M, ⌜(K (F := F)).WBelow (SparseCore.T c) M (8 * SparseCore.Cfg.Blocks.fst 1 1 1)⌝ ∗ owes (SparseCore.T c) (0 : CellTallies nD τ sig (HIx 1)) M)
  X _ := BI.emp
  Y _ := BI.emp
  Z c := Pipeline.unscopedRest (Ix := HIx 1) (Name := ℕ) (U := UU) (Lvl := ℕ) spec1 c (W c)
  hentry c := by
    rw [Pipeline.ownSems0_none]
    have hsplit := Pipeline.arrays_of_unscopedBufs (p := 0) (pcfgs (F := F)) adm (pdats W) launch1.win launch1.arr_whole c
      ((pdats W 0 c).share_full fun _ => rfl) (W c) fun _ => rfl
    iintro ⟨⟨Hub, %M, %hM, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists M; isplitr; · ipureintro; exact fun p hp => Or.inl (hM p hp)
      iexact HO
    isplitr; · iempintro
    iexact Hrest
  hin c := by
    rw [show (pdats W 0 c).Φ 0 = iprop(∃ f, accPts c f) from rfl]
    iintro ⟨-, -, Hr⟩
    ihave H := (Entails.of_eq (scopedRest1_eq c)) $$ Hr
    iexact H
  hout c := by
    rw [Pipeline.ownSems0_none, show (pdats W 0 c).Φ (Fin.last _) = iprop(∃ f, (SparseCore.T c).loc cc1_scratch0 ↦{fullShare} accAt W c f cfg1.N) from rfl]
    iintro ⟨%f, Hr⟩
    isplitr; · iempintro
    isplitr; · iempintro
    iapply (Entails.of_eq (scopedRest1_eq c).symm)
    iexists (accAt W c f cfg1.N)
    iexact Hr
  hexit c := by
    have hjoin := Pipeline.unscopedBufs_of_arrays (p := 0) (pcfgs (F := F)) adm (Ix := HIx 1) (Name := ℕ) (U := UU) (Lvl := ℕ) launch1.win launch1.arr_whole c
      (pdats W) ((pdats W 0 c).share_full fun _ => rfl) (W c) (Wout W c) ((pdats W 0 c).arrAt · cfg1.N)
      (fun w => by
        fin_cases w
        · exact ((pdats W 0 c).arrAt_in 0 rfl _).trans (Function.update_of_ne (show main_v2 ≠ main_v3 by decide) _ _).symm
        · exact ((pdats W 0 c).arrAt_in 1 rfl _).trans (Function.update_of_ne (show main_arg0 ≠ main_v3 by decide) _ _).symm
        · exact ((pdats W 0 c).arrAt_in 2 rfl _).trans (Function.update_of_ne (show main_arg1 ≠ main_v3 by decide) _ _).symm
        · exact (out_eq W c).trans (Function.update_self (main_v3 : Ref sig .tc) (fun _ => lossOf W c : Buf (Elt F) ((SparseCore.T c : Thread nD τ).loc main_v3)) (W c)).symm)
      (fun b hb => Function.update_of_ne (show b ≠ main_v3 from fun h => hb (h ▸ Finset.mem_image.mpr ⟨3, Finset.mem_univ _, rfl⟩)) _ _)
    iintro ⟨Ha, HO, -, Hrest⟩
    imodintro
    isplitl [Ha Hrest]
    · iapply hjoin; isplitl [Ha] <;> iassumption
    unfold Pipeline.Dat.owesAt Pipeline.owesWithin
    icases HO with ⟨%M, %hM, HO⟩; iexists M
    isplitr
    · ipureintro
      intro p hp
      rcases hM hp with h | ⟨w, s, rfl⟩
      · exact h
      · exact Nat.zero_le _
    iexact HO

end Cert.Proof.K
-- ==== Proof.Launch.lean ====
/-
  What the launch hands out and takes back: the targets as read shares and the partial histograms as rows for the
  thirty-two tiles, the arrays of a device listed, and the ghost state at the start.
-/
module

public import proofs.«01_k».proof.Proof.Tile
public import proofs.«01_k».proof.Proof.Region

@[expose] public section

noncomputable section

namespace Cert.Proof.K

open Cert.KernelIdeal Cert.KernelIdeal.Gen

open Idealize.ShloMosaic
open Idealize.ShloMosaic.SparseCore (V)
open Idealize.ShloMosaic.SparseCore.Cfg (HIx)
open Idealize.ShloMosaic.ValueIdx (ix1 ix2 ix3)
open Idealize.ShloMosaic.StableHlo (held)
open Idealize.ShloMosaic.Transfers
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The tiles' parts of the two arrays -/

theorem rows_disjoint : ∀ i ∈ (Finset.univ : Finset (Fin 32)), ∀ j ∈ (Finset.univ : Finset (Fin 32)), i ≠ j → Disjoint (rowSet i) (rowSet j) := by
  intro i _ j _ h
  refine Finset.disjoint_left.mpr fun x hi hj => h (Fin.ext ?_)
  unfold rowSet at hi hj
  exact (Finset.mem_filter.mp hi).2.symm.trans (Finset.mem_filter.mp hj).2

theorem rows_cover : (Finset.univ : Finset (Fin 32)).biUnion rowSet = Finset.univ := by
  refine Finset.eq_univ_of_forall fun x => Finset.mem_biUnion.mpr ⟨x 0, Finset.mem_univ _, ?_⟩
  unfold rowSet
  exact Finset.mem_filter.mpr ⟨Finset.mem_univ _, rfl⟩

theorem pPts_rows (d : Dev nD) (f : Buf (Elt F) (pLoc d)) :
    (pLoc d ↦{fullShare} f : sProp 𝕄) = bigSep Finset.univ fun w : Fin 32 => pLoc d ↦[rowSet w]{fullShare} f := by
  rw [← pointsTo_biUnion Finset.univ (ℓ := pLoc d) rowSet rows_disjoint, rows_cover]; try rfl

/-- The thirty-two tiles by SparseCore and subcore. -/
def tileEquiv : Fin 2 × Fin 16 ≃ Fin 32 where
  toFun p := ⟨2 * p.2.val + p.1.val, by have := p.1.isLt; have := p.2.isLt; omega⟩
  invFun w := (⟨w.val % 2, by omega⟩, ⟨w.val / 2, by have := w.isLt; omega⟩)
  left_inv p := by have := p.1.isLt; refine Prod.ext (Fin.ext ?_) (Fin.ext ?_) <;> dsimp only <;> omega
  right_inv w := by refine Fin.ext ?_; dsimp only; omega

theorem tiles_eq (Φ : Fin 32 → sProp 𝕄) :
    (bigSep Finset.univ fun c : Fin ((K (F := F)).nCore 0) => bigSep Finset.univ fun i : Fin ((K (F := F)).nSub 0) => Φ (tileNo (F := F) c i)) = bigSep Finset.univ Φ := by
  rw [bigSep_univ_equiv tileEquiv Φ, bigSep_univ_prod]
  rfl

theorem st0_eq (d : Dev nD) : (bigSep Finset.univ fun c : Fin ((K (F := F)).nCore 0) => (P m).st 0 d c)
    = bigSep Finset.univ fun w : Fin 32 => tilePts m d (m (pLoc d)) w := tiles_eq fun w => tilePts m d (m (pLoc d)) w
theorem dn0_eq (d : Dev nD) : (bigSep Finset.univ fun c : Fin ((K (F := F)).nCore 0) => (P m).dn 0 d c)
    = bigSep Finset.univ fun w : Fin 32 => tilePts m d (parts (tgt m d)) w := tiles_eq fun w => tilePts m d (parts (tgt m d)) w

/-- The two arrays dealt to the tiles, what is left of the targets kept aside. -/
theorem deal (d : Dev nD) (f : Buf (Elt F) (pLoc d)) : iprop((tLoc d ↦{fullShare} tgt m d) ∗ pLoc d ↦{fullShare} f)
    ⊣⊢ (iprop((tLoc d ↦{shareDrop fullShare 32} tgt m d) ∗ bigSep Finset.univ fun w : Fin 32 => tilePts m d f w) : sProp 𝕄) := by
  unfold tilePts
  rw [pPts_rows, bigSep_sep']
  constructor
  · iintro ⟨Ht, Hp⟩
    ihave H := (pointsTo_toks_split fullShare 32) $$ Ht
    icases H with ⟨Hd, Ht⟩
    isplitl [Hd]; · iexact Hd
    isplitl [Ht]; · iexact Ht
    iexact Hp
  · iintro ⟨Hd, Ht, Hp⟩
    isplitl [Hd Ht]
    · iapply (pointsTo_toks_join fullShare 32)
      isplitl [Hd]; · iexact Hd
      iexact Ht
    iexact Hp

/-! ## The device's arrays -/

abbrev aX : DevRef τ sig := Proc.devRef .tc (main_arg0 : Ref sig .tc)
abbrev aT : DevRef τ sig := Proc.devRef .tc (main_arg1 : Ref sig .tc)
abbrev a0 : DevRef τ sig := Proc.devRef .tc (main_v0 : Ref sig .tc)
abbrev a1 : DevRef τ sig := Proc.devRef .tc (main_v1 : Ref sig .tc)
abbrev aC : DevRef τ sig := Proc.devRef .tc (main_cst : Ref sig .tc)
abbrev a2 : DevRef τ sig := Proc.devRef .tc (main_v2 : Ref sig .tc)
abbrev a3 : DevRef τ sig := Proc.devRef .tc (main_v3 : Ref sig .tc)
abbrev a4 : DevRef τ sig := Proc.devRef .tc (main_v4 : Ref sig .tc)

abbrev SR : Finset (DevRef τ sig) := {aX, aT, a0, a1, aC, a2, a3, a4}

/-- An array of device `d` whole at `f`. -/
abbrev arr (d : Dev nD) (b : DevRef τ sig) (f : Buf (Elt F) ((d, b) : Loc nD τ sig)) : sProp 𝕄 := ((d, b) : Loc nD τ sig) ↦{fullShare} f

theorem held_SR (d : Dev nD) (W : Valuation τ sig (Elt F)) :
    (held (SparseCore.T d) SR W : sProp 𝕄) = iprop(arr d aX (W aX) ∗ arr d aT (W aT) ∗ arr d a0 (W a0) ∗ arr d a1 (W a1) ∗ arr d aC (W aC)
      ∗ arr d a2 (W a2) ∗ arr d a3 (W a3) ∗ arr d a4 (W a4)) := by
  unfold held
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) (W : Valuation τ sig (Elt F)) :
    (unscopedBufs d (fun b => W (Proc.devRef .tc b)) : sProp 𝕄) = held (SparseCore.T d) SR W := by
  rw [held_SR]
  unfold unscopedBufs
  rw [show (Finset.univ.filter fun b : Ref sig .tc => ¬ b.isScoped) = {main_arg0, main_arg1, main_v0, main_v1, main_cst, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The ghost state at the start -/

/-- The pipeline's ghost state of one device. -/
def G (d : Dev nD) : sProp 𝕄 := iprop(Pipeline.cellsGhost (Pipeline.pin (pcfgs (F := F)) adm) EP 0 d ∗ Pipeline.toksInit (Pipeline.pin (pcfgs (F := F)) adm) EP 0 d)

theorem phinj : Function.Injective (Pipeline.cellOf (nD := nD) (τ := τ) (Pipeline.pin (pcfgs (F := F)) adm)) := Gen.cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem ownU_three (a : UH) (b : UP) : (ownU ((a, (b, 1)) : UU) : sProp 𝕄) ⊢ iprop(BI.own (EH a) ∗ BI.own (EP b)) :=
  ownU_pair a (b, (1 : Counters))

theorem hu₀ : iprop(ownU (u₀ (F := F)) ∗ (P m).oxCred ∗ (K (F := F)).freeOn (· ∈ (∅ : Finset _)))
    ⊢ |={Set.univ}=> iprop(BI.own (EH (initOf (K (F := F)).hsCells (K (F := F)).hsToks)) ∗ bigSep Finset.univ (G (F := F))
      ∗ bigSep Finset.univ fun thr : Thread nD τ => bigSep Finset.univ fun q : Fin 1 => (P m).x q thr) := by
  unfold u₀
  iintro ⟨Hu, -, -⟩
  ihave H := (ownU_three _ _) $$ Hu
  icases H with ⟨HH, HP⟩
  imod (Pipeline.fund_ghost (Pipeline.pin (pcfgs (F := F)) adm) EP phinj) $$ HP with ⟨Hc, Ht⟩
  imodintro
  isplitl [HH]; · iexact HH
  isplitl [Hc Ht]
  · unfold G
    rw [bigSep_sep']
    isplitl [Hc]
    · iapply (Entails.of_eq (bigSep_congr fun c _ => bigSep_univ_of_subsingleton (0 : Fin 1))) $$ Hc
    · iapply (Entails.of_eq (bigSep_congr fun c _ => bigSep_univ_of_subsingleton (0 : Fin 1))) $$ Ht
  rw [show (fun thr : Thread nD τ => bigSep Finset.univ fun q : Fin 1 => (P m).x q thr) = fun _ => iprop(emp) from
    funext fun _ => bigSep_univ_of_subsingleton (0 : Fin 1),
    show (bigSep Finset.univ fun _ : Thread nD τ => (iprop(emp) : sProp 𝕄)) = iprop(emp) from bigSep_emp_const _]
  iempintro

end Cert.Proof.K
-- ==== Proof.Main.lean ====
/-
  @main on a device's TensorCore, statement by statement, and the program's run: the arguments kept, the result at the
  loss, every semaphore at zero.
-/
module

public import proofs.«01_k».proof.Proof.Launch

@[expose] public section

noncomputable section

namespace Cert.Proof.K

open Cert.KernelIdeal Cert.KernelIdeal.Gen

open Idealize.ShloMosaic
open Idealize.ShloMosaic.SparseCore (V)
open Idealize.ShloMosaic.SparseCore.Cfg (HIx)
open Idealize.ShloMosaic.ValueIdx (ix1 ix2 ix3)
open Idealize.ShloMosaic.StableHlo (held wp_hlo_within)
open Idealize.ShloMosaic.Transfers
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents, statement by statement -/

abbrev opR : HloOp τ sig (Elt F) := StableHlo.reshape main_v0 main_v1 (rfl : (.f32 : EltTy) = .f32) shapeCasts_S32x304_S32x19x16
abbrev opC : HloOp τ sig (Elt F) := StableHlo.nullary main_cst (constant S_ .f32 0x00000000#32)
abbrev opA : HloOp τ sig (Elt F) := StableHlo.binary main_v1 main_cst main_v2
  ((fun x v => Host.reduceAdd x v reducesTo_S32x19x16_S19_d0_2 h_S_) : (⟨S32x19x16, .f32⟩ : BufTy).Contents (Elt F) → (⟨S_, .f32⟩ : BufTy).Contents (Elt F) → (⟨S19, .f32⟩ : BufTy).Contents (Elt F))
abbrev opS : HloOp τ sig (Elt F) := StableHlo.reshape main_v3 main_v4 (rfl : (.f32 : EltTy) = .f32) shapeCasts_S1_S_

/-- The class counts, from the targets. -/
def binsOf (t : Vec F S8x512x512 .i32) : Vec F S19 .f32 :=
  Host.reduceAdd (shapeCast S32x19x16 (parts t) shapeCasts_S32x304_S32x19x16) (constant S_ .f32 0x00000000#32) reducesTo_S32x19x16_S19_d0_2 h_S_

def V0 (d : Dev nD) : Valuation τ sig (Elt F) := fun b => m (d, b)
/-- After the SparseCore call: the partial histograms. -/
def V1 (d : Dev nD) : Valuation τ sig (Elt F) := Function.update (V0 m d) a0 (parts (tgt m d))
def V2 (d : Dev nD) : Valuation τ sig (Elt F) := (opR (F := F)).result (V1 m d)
def V3 (d : Dev nD) : Valuation τ sig (Elt F) := (opC (F := F)).result (V2 m d)
/-- Before the TensorCore call: the class counts too. -/
def V4 (d : Dev nD) : Valuation τ sig (Elt F) := (opA (F := F)).result (V3 m d)

/-- The contents the region starts from. -/
def W4 (d : Dev nD) (b : Ref sig .tc) : Buf (Elt F) ((SparseCore.T d : Thread nD τ).loc b) := V4 m d (Proc.devRef .tc b)

/-- The loss the program computes on device `d`. -/
def loss (d : Dev nD) : F .f32 := lossOf (W4 m) d

/-- After it: the loss. -/
def V5 (d : Dev nD) : Valuation τ sig (Elt F) := Function.update (V4 m d) a3 (fun _ => loss m d)
def V6 (d : Dev nD) : Valuation τ sig (Elt F) := (opS (F := F)).result (V5 m d)

theorem V1_ne (d : Dev nD) {b : DevRef τ sig} (h : b ≠ a0) : V1 m d b = m (d, b) := Function.update_of_ne h _ _
theorem V4_x (d : Dev nD) : V4 m d aX = m (xLoc d) := by
  unfold V4 V3 V2
  rw [StableHlo.binary_result_ne _ _ _ _ _ _ _ _ (by decide), StableHlo.nullary_result_ne _ _ _ _ (by decide), StableHlo.reshape_result_ne _ _ _ _ _ _ _ (by decide)]
  exact V1_ne m d (by decide)
theorem V4_t (d : Dev nD) : V4 m d aT = m (tLoc d) := by
  unfold V4 V3 V2
  rw [StableHlo.binary_result_ne _ _ _ _ _ _ _ _ (by decide), StableHlo.nullary_result_ne _ _ _ _ (by decide), StableHlo.reshape_result_ne _ _ _ _ _ _ _ (by decide)]
  exact V1_ne m d (by decide)
theorem V4_bins (d : Dev nD) : V4 m d a2 = binsOf (tgt m d) := by
  unfold V4 V3 V2
  rw [StableHlo.binary_result, StableHlo.nullary_result, StableHlo.nullary_result_ne _ _ _ _ (by decide), StableHlo.reshape_result]
  unfold V1
  rw [Function.update_self]
  rfl
theorem V6_x (d : Dev nD) : V6 m d aX = m (xLoc d) := by
  unfold V6 V5
  rw [StableHlo.reshape_result_ne _ _ _ _ _ _ _ (by decide), Function.update_of_ne (by decide)]
  exact V4_x m d
theorem V6_t (d : Dev nD) : V6 m d aT = m (tLoc d) := by
  unfold V6 V5
  rw [StableHlo.reshape_result_ne _ _ _ _ _ _ _ (by decide), Function.update_of_ne (by decide)]
  exact V4_t m d
theorem V6_out (d : Dev nD) : V6 m d a4 = fun _ => loss m d := by
  unfold V6 V5
  rw [StableHlo.reshape_result, Function.update_self]
  rfl

theorem Wout_eq (d : Dev nD) (b : Ref sig .tc) : Wout (W4 m) d b = V5 m d (Proc.devRef .tc b) := by
  unfold Wout V5
  by_cases h : b = main_v3
  · subst h; rw [Function.update_self, Function.update_self]; rfl
  · rw [Function.update_of_ne h, Function.update_of_ne (fun e => h (Proc.devRef_injective _ e))]; rfl

theorem hR : (opR (F := F)).bufs ⊆ SR := show ({a0, a1} : Finset (DevRef τ sig)) ⊆ SR by decide
theorem hC : (opC (F := F)).bufs ⊆ SR := show ({aC} : Finset (DevRef τ sig)) ⊆ SR by decide
theorem hAd : (opA (F := F)).bufs ⊆ SR := show ({a1, aC, a2} : Finset (DevRef τ sig)) ⊆ SR by decide
theorem hS : (opS (F := F)).bufs ⊆ SR := show ({a3, a4} : Finset (DevRef τ sig)) ⊆ SR by decide

/-- What @main leaves the claim: the arguments at their launch contents, the result at the loss. -/
def FIN (d : Dev nD) : sProp 𝕄 := iprop(arr d aX (m (xLoc d)) ∗ arr d aT (m (tLoc d)) ∗ arr d a4 (fun _ => loss m d))

/-- The call's statement is the pipeline's own, lifted under the dispatch. -/
theorem call_eq : (Prog.lift (.customCall (SparseCore.inner (Pipeline.entry 0)) ()) :
      Prog (TpuEff nD τ sig (Elt F) (SparseCore.Sig (Pipeline.Sig Λ₀ (Fin 1) fun p => (pcfgs (F := F) p).Adm) 1) .tc) PUnit)
    = SparseCore.liftProg (pr := Proc.tc) (.op (.customCall (Pipeline.entry 0) ()) .ret) := rfl

/-- The TensorCore call, under the SparseCores' dispatch. -/
theorem wp_region [∀ e, Nonempty (Elt F e)] (d : Dev nD) (Q : PUnit → sProp 𝕄) :
    iprop((iprop(boundary (SparseCore.T d) ∗ (reg (W4 m)).post d) -∗ Q ⟨⟩) ∗ boundary (SparseCore.T d) ∗ (reg (W4 m)).pre d
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  rw [call_eq]
  have h1 := (K (F := F)).wp_liftProg (D (F := F)) 𝒱 (SparseCore.T d) Set.univ none (.op (.customCall (Pipeline.entry 0) ()) .ret) Q
  refine BI.Entails.trans ?_ h1
  refine BIBase.Entails.trans ?_ (Pipeline.RegionSeg.wp (pcfgs (F := F)) adm (pdats (W4 m)) none phinj EP (defs₀ (F := F)) 𝒱₀ (K (F := F)).L (K (F := F)).lev (reg (W4 m)) d none (fun _ h => nomatch h) .ret Q)
  unfold G
  iintro ⟨Hk, Hb, Hp, Hl, Hc, Ht⟩
  isplitl [Hk]
  · iintro H
    rw [wp_ret]
    imodintro
    iapply Hk; iexact H
  isplitl [Hb]; · iexact Hb
  isplitl [Hp]; · iexact Hp
  isplitl [Hl]; · iexact Hl
  isplitl [Hc]; · iexact Hc
  iexact Ht

/-- What the region starts from, and what it ends with, spelled out. -/
theorem pre_eq (d : Dev nD) : (reg (W4 m)).pre d = iprop(unscopedBufs d (W4 m d)
    ∗ ∃ M, ⌜(K (F := F)).WBelow (SparseCore.T d) M (8 * SparseCore.Cfg.Blocks.fst 1 1 1)⌝ ∗ owes (SparseCore.T d) (0 : CellTallies nD τ sig (HIx 1)) M) := rfl
theorem post_eq (d : Dev nD) : (reg (W4 m)).post d = iprop(unscopedBufs d (Wout (W4 m) d)
    ∗ ∃ M, ⌜(K (F := F)).WBelow (SparseCore.T d) M (8 * SparseCore.Cfg.Blocks.fst 1 1 1)⌝ ∗ owes (SparseCore.T d) (0 : CellTallies nD τ sig (HIx 1)) M) := rfl

theorem st1_owes (d : Dev nD) : (K (F := F)).Otc d 1 = 0 := by
  unfold SparseCore.Cfg.Otc
  exact Finset.sum_eq_zero fun q _ => if_neg (by have := q.isLt; omega)

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) SR (V0 m d) from unscoped_held d (V0 m d)]
  simp only [main, wp_bind, wp_pure]
  iintro ⟨#Hctx, Hst, ⟨Hb, Hheld, Hts, -⟩, HG⟩
  ihave Hh := (Entails.of_eq (held_SR (F := F) d _)) $$ Hheld
  icases Hh with ⟨Hx, Ht, Hp, H1, HC, H2, H3, H4⟩
  ihave Hd := (deal m d (m (pLoc d))).1 $$ [Ht Hp]
  · isplitl [Ht]; · iexact Ht
    iexact Hp
  icases Hd with ⟨Htd, Htiles⟩
  iapply ((K (F := F)).wp_run (D (F := F)) 𝒱 (EH := EH) (P := P m) κ d 0)
  isplitr; · iexact Hctx
  isplitl [Hst]; · iexact Hst
  isplitl [Htiles]
  · rw [st0_eq]; iexact Htiles
  iintro ⟨Hst, Hdn⟩
  ihave Hdn' := (Entails.of_eq (dn0_eq m d)) $$ Hdn
  ihave Hback := (deal m d (parts (tgt m d))).2 $$ [Htd Hdn']
  · isplitl [Htd]; · iexact Htd
    iexact Hdn'
  icases Hback with ⟨Ht, Hp⟩
  ihave Hheld := (Entails.of_eq (held_SR (F := F) d (V1 m d)).symm) $$ [Hx Ht Hp H1 HC H2 H3 H4]
  · rw [V1_ne m d (b := aX) (by decide), V1_ne m d (b := aT) (by decide), V1_ne m d (b := a1) (by decide), V1_ne m d (b := aC) (by decide),
      V1_ne m d (b := a2) (by decide), V1_ne m d (b := a3) (by decide), V1_ne m d (b := a4) (by decide)]
    rw [show V1 m d a0 = parts (tgt m d) from Function.update_self _ _ _]
    isplitl [Hx]; · iexact Hx
    isplitl [Ht]; · iexact Ht
    isplitl [Hp]; · iexact Hp
    isplitl [H1]; · iexact H1
    isplitl [HC]; · iexact HC
    isplitl [H2]; · iexact H2
    isplitl [H3]; · iexact H3
    iexact H4
  iapply (wp_hlo_within 𝒱 (SparseCore.T d) none Set.univ (op := opR) (S := SR) hR (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := SR) hC (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opA) (S := SR) hAd (V := V3 m d)) $$ [Hb Hheld]
  · isplitl [Hb]; · iexact Hb
    iexact Hheld
  iintro ⟨Hb, Hheld⟩
  rw [wp_ret]; imodintro
  unfold SparseCore.Cfg.tcSt
  icases Hst with ⟨⟨%M, %hM, HO⟩, Hst⟩
  iapply (wp_region m d _)
  rw [pre_eq, post_eq]
  isplitr [Hb Hheld HO HG]; swap
  · isplitl [Hb]; · iexact Hb
    isplitl [Hheld HO]
    · isplitl [Hheld]
      · iapply (Entails.of_eq (unscoped_held d (V4 m d)).symm)
        iexact Hheld
      iexists M
      isplitr; · ipureintro; exact hM
      rw [← st1_owes (F := F) d]; iexact HO
    isplitr [HG]
    · unfold SparseCore.Cfg.ctx
      icases Hctx with ⟨H, -⟩
      iexact H
    iexact HG
  iintro ⟨Hb, Hub, %M', %hM', HO⟩
  ihave Hheld := (Entails.of_eq ((congrArg (fun W => (unscopedBufs d W : sProp 𝕄)) (funext fun b => Wout_eq m d b)).trans (unscoped_held d (V5 m d)))) $$ Hub
  iapply (wp_hlo_within 𝒱 (SparseCore.T d) none Set.univ (op := opS) (S := SR) hS (V := V5 m d)) $$ [Hb Hheld]
  · isplitl [Hb]; · iexact Hb
    iexact Hheld
  iintro ⟨Hb, Hheld⟩
  ihave Hh := (Entails.of_eq (held_SR (F := F) d (V6 m d))) $$ [Hheld]
  · iexact Hheld
  icases Hh with ⟨Hx, Ht, -, -, -, -, -, H4⟩
  rw [wp_ret]; imodintro; imodintro
  isplitl [Hst HO]
  · isplitl [HO]
    · iexists M'
      isplitr; · ipureintro; exact hM'
      rw [st1_owes (F := F) d]; iexact HO
    iexact Hst
  isplitr [Hb Hts]
  · unfold FIN
    rw [V6_x, V6_t, V6_out]
    isplitl [Hx]; · iexact Hx
    isplitl [Ht]; · iexact Ht
    iexact H4
  isplitl [Hb] <;> iassumption

def fq (d : Dev nD) (s' : Phys nD τ sig (Elt F)) : Prop :=
  s'.mem.mem (xLoc d) = m (xLoc d) ∧ s'.mem.mem (tLoc d) = m (tLoc d) ∧ s'.mem.mem (d, a4) = fun _ => loss m d

theorem hfin (d : Dev nD) (s' : Phys nD τ sig (Elt F)) : iprop(FIN m d ∗ SI s') ⊢ (⌜fq m d s'⌝ : sProp 𝕄) := by
  unfold FIN
  iintro ⟨⟨Hx, Ht, H4⟩, HSI⟩
  icombine HSI Hx gives %hx
  icombine HSI Ht gives %ht
  icombine HSI H4 gives %h4
  ipureintro
  exact ⟨funext fun i => hx i (Finset.mem_univ i), funext fun i => ht i (Finset.mem_univ i), funext fun i => h4 i (Finset.mem_univ i)⟩

/-! ## The program's run -/

def QC : PUnit × MemSt nD τ sig (Elt F) → Prop := fun r =>
  (∀ c : Dev nD, r.2.mem (xLoc c) = m (xLoc c) ∧ r.2.mem (tLoc c) = m (tLoc c) ∧ r.2.mem (c, a4) = fun _ => loss m c) ∧ r.2.sem = fun _ => 0

/-- The run, from targets that are classes. -/
theorem run_main [∀ e, Nonempty (Elt F e)] (hm : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (G (F := F)) (FIN m) (u₀ (F := F)) (hu₀ m) (hmain m ρ) (fq m) (hfin m) (QC m) (fun _ h hz => ⟨h, hz⟩)

end Cert.Proof.K
-- ==== Proof.Pre.lean ====
/- What the precondition says of the arguments: each target word is below 19. -/
module

public import proofs.«01_k».proof.Proof.Gen.Pre_targets_in_range
public import Idealize.ShloMosaic.Lib.ReduceAll
public import Idealize.ShloMosaic.Lib.Affine
public import Idealize.ShloMosaic.Lib.IdealHost

@[expose] public section

noncomputable section

namespace Cert.Proof.K

open Idealize.ShloMosaic

/-- The one index of a scalar is unique. -/
instance subsingleton_scalar : Subsingleton ((⟨0, ![]⟩ : Shape).Idx) := ⟨fun a b => funext fun k => k.elim0⟩

/-- A word that reads between 0 and 18 signed is below 19 unsigned. -/
theorem lt_of_signed (x : BitVec 32) (h0 : (0#32).toInt ≤ x.toInt) (h1 : x.toInt < (19#32).toInt) : x.toNat < 19 := by
  have e0 : (0#32 : BitVec 32).toInt = 0 := by decide
  have e1 : (19#32 : BitVec 32).toInt = 19 := by decide
  rw [e0] at h0
  rw [e1] at h1
  rw [BitVec.toInt_eq_toNat_cond] at h0 h1
  have := x.isLt
  split at h0 <;> omega

/-- The range test on the targets, met, puts each of them below 19. -/
theorem range_of_and (t : IVec ⟨3, ![8, 512, 512]⟩ 32) (hb hr hu)
    (h : Host.reduce IntOp.andi
      (andi (cmpi .sge t (broadcastInDim ⟨3, ![8, 512, 512]⟩ ![] hb (constantI (⟨0, ![]⟩ : Shape) 32 0#32)))
        (cmpi .slt t (broadcastInDim ⟨3, ![8, 512, 512]⟩ ![] hb (constantI (⟨0, ![]⟩ : Shape) 32 19#32))))
      (constantI (⟨0, ![]⟩ : Shape) 1 1#1) (axes := [0, 1, 2]) (t := ⟨0, ![]⟩) hr hu (fun k => k.elim0) = 1#1)
    (i : (⟨3, ![8, 512, 512]⟩ : Shape).Idx) : (t i).toNat < 19 := by
  have h1 := Host.reduce_andi_all _ _ _ _ _ h i
  obtain ⟨ha, hb'⟩ := IntOp.andi_eq_one.1 h1
  exact lt_of_signed _ (IntOp.cmpi_sge.1 ha) (IntOp.cmpi_slt.1 hb')

/-- The precondition: every target is below 19. -/
theorem range_of_targets {F : FTy → Type} [FloatOps F] (x : FVec F ⟨4, ![8, 19, 512, 512]⟩ .f32) (t : IVec ⟨3, ![8, 512, 512]⟩ 32)
    (h : Cert.Pre_targets_in_range.fn (F := F) x t = fun _ => 1#1) (i : (⟨3, ![8, 512, 512]⟩ : Shape).Idx) :
    (t i).toNat < 19 := by
  have h1 := congrFun h (fun k => k.elim0)
  dsimp only [Cert.Pre_targets_in_range.fn] at h1
  exact range_of_and t _ _ _ h1 i

end Cert.Proof.K

end
-- ==== Proof.Same.lean ====
/- The kernel's text and the idealized kernel's are the same definitions under two names: no operation was rewritten.
   Here the two body tables and the two families of threads are shown equal, table row by table row, so that a run of
   the one is a run of the other. -/
module

public import proofs.«01_k».proof.Proof.Gen.Kernel
public import proofs.«01_k».proof.Proof.Gen.KernelIdeal

@[expose] public section

noncomputable section

namespace Cert.Proof.K

open Idealize.ShloMosaic Idealize.SL.Sem

variable {F : FTy → Type} [FloatOps F]

/-- The kernels' two body tables agree at each processor and label. -/
theorem same_row (p : Proc Cert.KernelIdeal.τ) (ℓ a) :
    Cert.Kernel.defs₀ (F := F) p ℓ a = Cert.KernelIdeal.defs₀ (F := F) p ℓ a := by
  match p, ℓ, a with
  | .scVector c s, 0, _ => rfl
  | .tc, 1, (t, s) => rfl
  | .tc, 0, _ => rfl
  | .scVector c s, 1, _ => rfl
  | .scScalar c, 0, _ => rfl
  | .scScalar c, 1, _ => rfl

/-- So the two tables are one, -/
theorem same_table : Cert.Kernel.defs₀ (F := F) = Cert.KernelIdeal.defs₀ (F := F) :=
  funext fun p => funext fun ℓ => funext fun a => same_row p ℓ a

/-- and with the pipelines' and the launch's rows added they still are. -/
theorem same_defs : Cert.Kernel.defs (F := F) = Cert.KernelIdeal.defs (F := F) := by
  unfold Cert.Kernel.defs Cert.KernelIdeal.defs
  exact congrArg (fun d => Cert.KernelIdeal.sc.defs (Pipeline.defs Cert.KernelIdeal.pcfgs d)) same_table

/-- The host programs are the same, -/
theorem same_main : Cert.Kernel.main (F := F) = Cert.KernelIdeal.main (F := F) := rfl

/-- and so is what each thread runs. -/
theorem same_threads : Cert.Kernel.threads (F := F) = Cert.KernelIdeal.threads (F := F) :=
  congrArg (fun d => Cert.KernelIdeal.sc.threads d) same_main

/-- A run under equal tables and equal threads. -/
theorem run_of_eq {nD : Nat} {τ : Topo} {sig : RefSig} {Val : EltTy → Type} {Λ : Labels} {d d' : Defs nD τ sig Val Λ}
    {p p' : (c : Thread nD τ) → Prog (TpuEff nD τ sig Val Λ c.2) PUnit} (hd : d' = d) (hp : p' = p) {s : MemSt nD τ sig Val}
    {Q : PUnit × MemSt nD τ sig Val → Prop} (h : θ_run d p s Q) : θ_run d' p' s Q := by
  subst hd
  subst hp
  exact h

end Cert.Proof.K

end
-- ==== Proof.Frames.lean ====
/- The frames: each program runs to its end, its arguments unchanged and every counter back at zero. The kernel's two
   frames are one run read at the two float instances; the reference is a list of host operations and declares no
   semaphore. -/
module

public import proofs.«01_k».proof.Defs
public import proofs.«01_k».proof.Proof.Gen.Kernel
public import proofs.«01_k».proof.Proof.Gen.ReferenceIdeal.Run
public import proofs.«01_k».proof.Proof.Main
public import proofs.«01_k».proof.Proof.Pre
public import proofs.«01_k».proof.Proof.Same
public import Idealize.ShloMosaic.Lib.Routing.ZeroElt

@[expose] public section

noncomputable section

namespace Cert.Proof.K

open Idealize.ShloMosaic Idealize.SL.Sem

/-- Every element type has a value at the bit patterns. -/
instance nonempty_bits (e : EltTy) : Nonempty (Elt Bits e) := ⟨Routing.zeroElt _ e⟩

/-- Every element type has a value at the extended reals. -/
instance nonempty_ideal (e : EltTy) : Nonempty (Elt Ideal e) := ⟨Routing.zeroElt _ e⟩

/-- The kernel's own frame, at the bit patterns: its text and the idealized one are the same definitions. -/
theorem frame_kernel : Cert.quiescent_Kernel := by
  intro m ρ h
  have hr := (θ_run Cert.KernelIdeal.defs _ _).mono
    (fun _ h => (⟨fun c => ⟨(h.1 c).1, (h.1 c).2.1⟩, h.2⟩ :
      (∀ c, _ = m (xLoc c) ∧ _ = m (tLoc c)) ∧ _))
    (run_main (F := Bits) m ρ (fun d x => range_of_targets _ _ (h d) x))
  exact run_of_eq same_defs same_threads hr

theorem frame_ideal : Cert.quiescent_KernelIdeal := fun m ρ h =>
  (θ_run Cert.KernelIdeal.defs _ _).mono (fun _ h => ⟨fun c => ⟨(h.1 c).1, (h.1 c).2.1⟩, h.2⟩)
    (run_main (F := Ideal) m ρ (fun d x => range_of_targets _ _ (h d) x))

theorem frame_ref : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition. -/
theorem frame_ref_in_range : Cert.quiescent_ReferenceIdeal_pre_targets_in_range := fun m ρ _ => frame_ref m ρ trivial

end Cert.Proof.K

end
-- ==== Proof.Spec.lean ====
/-
  The loss over the extended reals, written once as plain sums: the number of pixels of each class, a class's weight, a
  pixel's log-likelihood, each image's two sums over its pixels, and the sum of the images' quotients. Both programs are
  shown equal to this. Also two facts on sums: a sum over a range cut into equal runs, and a fold that adds.
-/
module

public import Idealize.ShloMosaic.Lib.Pointwise

@[expose] public section

noncomputable section

namespace Cert.Proof.K

open Idealize.ShloMosaic

/-- The classes of the pixels: image, row, column. -/
abbrev Targets := (⟨3, ![8, 512, 512]⟩ : Shape).Idx → BitVec 32

/-- The logits: image, class, row, column. -/
abbrev Logits := (⟨4, ![8, 19, 512, 512]⟩ : Shape).Idx → EReal

/-- The class of a pixel as a number. -/
def cls (t : Targets) (b : Fin 8) (r c : Fin 512) : Nat := (t (ix3 b r c)).toNat

/-- How many pixels are of class `n`. -/
def cnt (t : Targets) (n : Nat) : EReal := ∑ b : Fin 8, ∑ r : Fin 512, ∑ c : Fin 512, if cls t b r c = n then 1 else 0

/-- The weight of class `n`: one more than the share of the pixels of other classes, where the class occurs. -/
def wt (t : Targets) (n : Nat) : EReal :=
  (if cnt t n = 0 then 0 else 1 - Ideal.div (cnt t n) (∑ k : Fin 19, cnt t k.val)) + 1

/-- A pixel's log of the sum of exponentials. -/
def lse (x : Logits) (b : Fin 8) (r c : Fin 512) : EReal := Ideal.log (∑ k : Fin 19, Ideal.exp (x (ix4 b k r c)))

/-- A pixel's log-likelihood. -/
def lik (x : Logits) (t : Targets) (b : Fin 8) (r c : Fin 512) : EReal := x (ix4 b (Fin.ofNat 19 (cls t b r c)) r c) - lse x b r c

/-- An image's weighted log-likelihoods, summed. -/
def num (x : Logits) (t : Targets) (b : Fin 8) : EReal := ∑ r : Fin 512, ∑ c : Fin 512, wt t (cls t b r c) * lik x t b r c

/-- An image's weights, summed. -/
def den (t : Targets) (b : Fin 8) : EReal := ∑ r : Fin 512, ∑ c : Fin 512, wt t (cls t b r c)

/-- The loss. -/
def lossSum (x : Logits) (t : Targets) : EReal := ∑ b : Fin 8, Ideal.div (-(num x t b)) (den t b)

/-! ## Sums -/

/-- A sum over `a * b` places is a sum over `a` runs of `b`. -/
theorem sum_runs {M : Type*} [AddCommMonoid M] {N : Nat} (a b : Nat) (h : N = a * b) (f : Fin N → M) :
    ∑ i, f i = ∑ i : Fin a, ∑ j : Fin b, f ⟨b * i.val + j.val, by
      subst h
      calc b * i.val + j.val < b * i.val + b := by have := j.isLt; omega
        _ = b * (i.val + 1) := by ring
        _ ≤ b * a := Nat.mul_le_mul_left _ i.isLt
        _ = a * b := Nat.mul_comm _ _⟩ := by
  subst h
  rw [← Equiv.sum_comp finProdFinEquiv f, Fintype.sum_prod_type]
  refine Finset.sum_congr rfl fun i _ => Finset.sum_congr rfl fun j _ => congrArg f (Fin.ext ?_)
  show j.val + b * i.val = b * i.val + j.val
  omega

/-- A fold whose steps each add to the place looked at adds the sum of what they add. -/
theorem foldl_adds {α ι : Type*} (g : (ι → EReal) → α → (ι → EReal)) (d : α → EReal) (p : ι) :
    ∀ (l : List α) (_ : ∀ f, ∀ a ∈ l, g f a p = f p + d a) (f : ι → EReal), l.foldl g f p = f p + (l.map d).sum
  | [], _, f => by simp
  | a :: l, h, f => by
    rw [List.foldl_cons, foldl_adds g d p l (fun f a ha => h f a (List.mem_cons_of_mem _ ha)), h f a List.mem_cons_self,
      List.map_cons, List.sum_cons, add_assoc]

/-- The same over the numbers below `n`, in order. -/
theorem foldl_adds_fin {n : Nat} {ι : Type*} (g : (ι → EReal) → Fin n → (ι → EReal)) (d : Fin n → EReal) (p : ι)
    (h : ∀ f a, g f a p = f p + d a) (f : ι → EReal) : (List.finRange n).foldl g f p = f p + ∑ i, d i := by
  rw [foldl_adds g d p _ (fun f a _ => h f a), Fin.sum_univ_def]

end Cert.Proof.K

end
-- ==== Proof.Reads.lean ====
/-
  The blocks the loss call's windows read: at grid point `t`, image `t / 2`, rows from `256 (t mod 2)`; the counts whole.
-/
module

public import proofs.«01_k».proof.Proof.Region
public import proofs.«01_k».proof.Proof.Spec
public import Idealize.ShloMosaic.Lib.Pipeline.ValueKit

@[expose] public section

noncomputable section

namespace Cert.Proof.K

open Cert.KernelIdeal Cert.KernelIdeal.Gen
open Idealize.ShloMosaic

variable (W : (c : Dev nD) → (b : Ref sig .tc) → Buf (Elt Ideal) ((SparseCore.T c : Thread nD τ).loc b))

/-! ## Which block each window is at -/

theorem index_x : ∀ t : Fin grid1.N, win1_1.index t = ![t.val / 2, 0, t.val % 2, 0] := by decide +kernel
theorem index_t : ∀ t : Fin grid1.N, win1_2.index t = ![t.val / 2, t.val % 2, 0] := by decide +kernel
theorem index_b : ∀ t : Fin grid1.N, win1_0.index t = ![0] := by decide +kernel

/-! ## The reads -/

theorem xAt_apply (c : Dev nD) (t : Fin cfg1.N) (n : Fin 19) (r : Fin 256) (k : Fin 512) (h0 : t.val / 2 < 8) (h1 : 256 * (t.val % 2) + r.val < 512) :
    xAt (F := Ideal) W c t (ix4 0 n r k) = W c main_arg0 (ix4 ⟨t.val / 2, h0⟩ n ⟨256 * (t.val % 2) + r.val, h1⟩ k) := by
  unfold xAt
  have e := index_x t
  blk_ext [e]

theorem tAt_apply (c : Dev nD) (t : Fin cfg1.N) (r : Fin 256) (k : Fin 512) (h0 : t.val / 2 < 8) (h1 : 256 * (t.val % 2) + r.val < 512) :
    tAt (F := Ideal) W c t (ix3 0 r k) = W c main_arg1 (ix3 ⟨t.val / 2, h0⟩ ⟨256 * (t.val % 2) + r.val, h1⟩ k) := by
  unfold tAt
  have e := index_t t
  blk_ext [e]

theorem bAt_apply (c : Dev nD) (t : Fin cfg1.N) (n : Fin 19) :
    bAt (F := Ideal) W c t (ix1 n) = W c main_v2 (ix1 n) := by
  unfold bAt
  have e := index_b t
  blk_ext [e]

end Cert.Proof.K

end
-- ==== Proof.Blocks.lean ====
/-
  One block of the loss call over the extended reals: each pixel's weight is its class's weight, its picked logit its own
  class's, and the block's two sums are sums over its rows and columns.
-/
module

public import proofs.«01_k».proof.Proof.Nll
public import proofs.«01_k».proof.Proof.Spec

@[expose] public section

noncomputable section

namespace Cert.Proof.K

open Cert.KernelIdeal Cert.KernelIdeal.Gen
open Idealize.ShloMosaic

/-- A selection by whether a word is a number is a choice by its value. -/
theorem select_class {α : Type} (w : BitVec 32) (n : Nat) (hn : n < 19) (a b : α) :
    Scalar.select (IntOp.cmpi .eq w (BitVec.ofNat 32 n)) a b = if w.toNat = n then a else b := by
  have e : (w = BitVec.ofNat 32 n) ↔ w.toNat = n := by
    rw [← BitVec.toNat_inj, BitVec.toNat_ofNat, Nat.mod_eq_of_lt (by omega)]
  unfold Scalar.select IntOp.cmpi
  by_cases h : w.toNat = n
  · rw [if_pos h]; simp [e.2 h]
  · rw [if_neg h]; simp [beq_eq_false_iff_ne.2 (fun h' => h (e.1 h'))]

/-- The total of the counts. -/
theorem totalTo_eq (b : Vec Ideal S19 .f32) : totalTo b 18 = ∑ k : Fin 19, (b (ix1 k) : EReal) := by
  have e : ∀ n : Nat, (h : n < 19) → totalTo b n = ∑ k : Fin (n + 1), (b (ix1 ⟨k.val, by have := k.isLt; omega⟩) : EReal) := by
    intro n
    induction n with
    | zero =>
      intro h
      rw [Fin.sum_univ_one]
      exact congrArg b (ix1_eq_valueIdx _).symm
    | succ n ih =>
      intro h
      rw [Fin.sum_univ_castSucc]
      show (totalTo b n : EReal) + binAt b (n + 1) = _
      rw [ih (by omega)]
      congr 1
      refine congrArg b ((ix1_eq_valueIdx _).trans (congrArg ValueIdx.ix1 (Fin.ext ?_))).symm
      show n + 1 = (n + 1) % 19
      omega
  exact e 18 (by omega)

/-- A class's weight, from counts that are the numbers of pixels. -/
theorem wcls_eq (t : Targets) (b : Vec Ideal S19 .f32) (hb : ∀ n : Fin 19, b (ix1 n) = cnt t n.val) (n : Nat) (hn : n < 19) :
    wcls b (totalTo b 18) n = wt t n := by
  have e1 : binAt b n = cnt t n := by
    have := hb ⟨n, hn⟩
    rw [ix1_eq_valueIdx] at this
    rw [← this]
    exact congrArg b (congrArg ValueIdx.ix1 (Fin.ext (Nat.mod_eq_of_lt hn)))
  have e2 : totalTo b 18 = ∑ k : Fin 19, cnt t k.val := (totalTo_eq b).trans (Finset.sum_congr rfl fun k _ => hb k)
  unfold wcls wt
  rw [e1, e2]
  show (Scalar.select (Ideal.cmp .one (cnt t n) (Ideal.ofBits .f32 0x00000000#32)) ((Ideal.ofBits .f32 0x3F800000#32) - Ideal.div (cnt t n) _) (Ideal.ofBits .f32 0x00000000#32) : EReal)
    + Ideal.ofBits .f32 0x3F800000#32 = _
  rw [Ideal.ofBits_one_f32, Ideal.ofBits_zero_f32]
  congr 1
  by_cases h : cnt t n = 0
  · rw [if_pos h, h]
    simp [Ideal.cmp, Scalar.select]
  · rw [if_neg h]
    simp [Ideal.cmp, Scalar.select, h]

theorem wselAt_apply (b : Vec Ideal S19 .f32) (tot : EReal) (t : IVec S256x512 32) (p : S256x512.Idx) :
    ∀ n : Nat, n ≤ 19 → wselAt (F := Ideal) b tot t n p = if (t p).toNat < n then wcls b tot (t p).toNat else (0 : EReal)
  | 0, _ => by
    rw [if_neg (by omega)]
    exact Ideal.ofBits_zero_f32
  | n + 1, h => by
    show Scalar.select (IntOp.cmpi .eq (t p) (BitVec.ofNat 32 n)) (wcls b tot n) (wselAt (F := Ideal) b tot t n p) = _
    rw [select_class _ _ (by omega), wselAt_apply b tot t p n (by omega)]
    by_cases e : (t p).toNat = n
    · rw [if_pos e, if_pos (by omega), e]
    · rw [if_neg e]
      by_cases e' : (t p).toNat < n
      · rw [if_pos e', if_pos (by omega)]
      · rw [if_neg e', if_neg (by omega)]

theorem pickedAt_apply (x : FVec Ideal S19x256x512 .f32) (t : IVec S256x512 32) (p : S256x512.Idx) :
    ∀ n : Nat, n ≤ 19 → pickedAt x t n p = if (t p).toNat < n then xCls x (t p).toNat p else (0 : EReal)
  | 0, _ => by
    rw [if_neg (by omega)]
    exact Ideal.ofBits_zero_f32
  | n + 1, h => by
    show Scalar.select (IntOp.cmpi .eq (t p) (BitVec.ofNat 32 n)) (xCls x n p) (pickedAt x t n p) = _
    rw [select_class _ _ (by omega), pickedAt_apply x t p n (by omega)]
    by_cases e : (t p).toNat = n
    · rw [if_pos e, if_pos (by omega), e]
    · rw [if_neg e]
      by_cases e' : (t p).toNat < n
      · rw [if_pos e', if_pos (by omega)]
      · rw [if_neg e', if_neg (by omega)]

theorem xCls_apply (x : FVec Ideal S19x256x512 .f32) (n : Nat) (hn : n < 19) (r : Fin 256) (c : Fin 512) :
    xCls x n (ix2 r c) = x (ix3 ⟨n, hn⟩ r c) := by
  unfold xCls
  rw [dif_pos hn]
  pointwise

theorem xBlk_apply (x : Vec Ideal S1x19x256x512 .f32) (n : Fin 19) (r : Fin 256) (c : Fin 512) : xBlk x (ix3 n r c) = x (ix4 0 n r c) := by
  pointwise [xBlk]

theorem tBlk_apply (t : Vec Ideal S1x256x512 .i32) (r : Fin 256) (c : Fin 512) : tBlk (F := Ideal) t (ix2 r c) = t (ix3 0 r c) := by
  pointwise [tBlk]

theorem lseBlk_apply (x : FVec Ideal S19x256x512 .f32) (r : Fin 256) (c : Fin 512) :
    lseBlk x (ix2 r c) = Ideal.log (∑ k : Fin 19, Ideal.exp (x (ix3 k r c))) := by
  pointwise [lseBlk]

theorem sumBlk_eq (v : FVec Ideal S256x512 .f32) : sumBlk v = ∑ r : Fin 256, ∑ c : Fin 512, (v (ix2 r c) : EReal) := by
  pointwise [sumBlk]

end Cert.Proof.K

end
-- ==== Proof.KernelLoss.lean ====
/-
  The kernel's loss over the extended reals: from counts that are the numbers of pixels and classes below 19, the third
  running scalar after the last grid point is the loss written as plain sums.
-/
module

public import proofs.«01_k».proof.Proof.Reads
public import proofs.«01_k».proof.Proof.Blocks

@[expose] public section

noncomputable section

namespace Cert.Proof.K

open Cert.KernelIdeal Cert.KernelIdeal.Gen
open Idealize.ShloMosaic

/-- The two halves of an image: the third scalar after them. -/
theorem acc_image (b : Nat) (u v u' v' : EReal) (f : Vec Ideal S3 .f32) :
    accNext (F := Ideal) b 1 u' v' (accNext (F := Ideal) b 0 u v f) (ValueIdx.ix1 2)
      = if b = 0 then Ideal.div (-(u + u')) (v + v') else (f (ValueIdx.ix1 2) : EReal) + Ideal.div (-(u + u')) (v + v') := by
  have e : imgLoss (F := Ideal) (u + u') (v + v') = Ideal.div (-(u + u')) (v + v') := by
    show Ideal.div (Ideal.ofBits .f32 0x00000000#32 - (u + u')) (v + v') = _
    rw [Ideal.ofBits_zero_f32, sub_eq_add_neg, zero_add]
  rw [← e]
  by_cases h : b = 0
  · rw [if_pos h]
    subst h
    rfl
  · rw [if_neg h]
    have e1 : ∀ g, accNext (F := Ideal) b 1 u' v' g (ValueIdx.ix1 2) = (g (ValueIdx.ix1 2) : EReal) + imgLoss (F := Ideal) (g (ValueIdx.ix1 0) + u') (g (ValueIdx.ix1 1) + v') := by
      intro g
      unfold accNext
      rw [if_neg (by omega), if_neg h]
      rfl
    rw [e1]
    rfl

variable (W : (c : Dev nD) → (b : Ref sig .tc) → Buf (Elt Ideal) ((SparseCore.T c : Thread nD τ).loc b)) (c : Dev nD)
variable (x : Logits) (t : Targets) (ht : ∀ p, (t p).toNat < 19)
variable (hx : W c main_arg0 = x) (hT : W c main_arg1 = t) (hb : ∀ n : Fin 19, W c main_v2 (ix1 n) = cnt t n.val)

include ht hT hb in
/-- A block's weights, by row and column. -/
theorem wsel_block (p : Fin cfg1.N) (r : Fin 256) (k : Fin 512) (h0 : p.val / 2 < 8) (h1 : 256 * (p.val % 2) + r.val < 512) :
    wselAt (F := Ideal) (bAt W c p) (totalTo (F := Ideal) (bAt W c p) 18) (tBlk (F := Ideal) (tAt W c p)) 19 (ix2 r k)
      = wt t (cls t ⟨p.val / 2, h0⟩ ⟨256 * (p.val % 2) + r.val, h1⟩ k) := by
  have e : tBlk (F := Ideal) (tAt W c p) (ix2 r k) = t (ix3 ⟨p.val / 2, h0⟩ ⟨256 * (p.val % 2) + r.val, h1⟩ k) := by
    rw [tBlk_apply, tAt_apply W c p r k h0 h1, hT]
  rw [wselAt_apply _ _ _ _ 19 (le_refl _), e, if_pos (ht _)]
  exact wcls_eq t _ (fun n => (bAt_apply W c p n).trans (hb n)) _ (ht _)

include ht hT hb in
theorem den_block (p : Fin cfg1.N) (h0 : p.val / 2 < 8) :
    denBlk (F := Ideal) (bAt W c p) (tAt W c p)
      = ∑ r : Fin 256, ∑ k : Fin 512, wt t (cls t ⟨p.val / 2, h0⟩ ⟨256 * (p.val % 2) + r.val, by have := r.isLt; omega⟩ k) := by
  unfold denBlk
  rw [sumBlk_eq]
  exact Finset.sum_congr rfl fun r _ => Finset.sum_congr rfl fun k _ => wsel_block W c t ht hT hb p r k h0 (by have := r.isLt; omega)

include ht hx hT hb in
theorem num_block (p : Fin cfg1.N) (h0 : p.val / 2 < 8) :
    numBlk (F := Ideal) (bAt W c p) (xAt W c p) (tAt W c p)
      = ∑ r : Fin 256, ∑ k : Fin 512, wt t (cls t ⟨p.val / 2, h0⟩ ⟨256 * (p.val % 2) + r.val, by have := r.isLt; omega⟩ k)
          * lik x t ⟨p.val / 2, h0⟩ ⟨256 * (p.val % 2) + r.val, by have := r.isLt; omega⟩ k := by
  unfold numBlk
  rw [sumBlk_eq]
  refine Finset.sum_congr rfl fun r _ => Finset.sum_congr rfl fun k _ => ?_
  have h1 : 256 * (p.val % 2) + r.val < 512 := by have := r.isLt; omega
  have e : tBlk (F := Ideal) (tAt W c p) (ix2 r k) = t (ix3 ⟨p.val / 2, h0⟩ ⟨256 * (p.val % 2) + r.val, h1⟩ k) := by
    rw [tBlk_apply, tAt_apply W c p r k h0 h1, hT]
  have ex : ∀ n : Fin 19, xBlk (xAt (F := Ideal) W c p) (ix3 n r k) = x (ix4 ⟨p.val / 2, h0⟩ n ⟨256 * (p.val % 2) + r.val, h1⟩ k) := by
    intro n
    rw [xBlk_apply, xAt_apply W c p n r k h0 h1, hx]
  show (wselAt (F := Ideal) (bAt W c p) (totalTo (F := Ideal) (bAt W c p) 18) (tBlk (F := Ideal) (tAt W c p)) 19 (ix2 r k) : EReal)
    * (pickedAt (xBlk (xAt (F := Ideal) W c p)) (tBlk (F := Ideal) (tAt W c p)) 19 (ix2 r k) - lseBlk (xBlk (xAt (F := Ideal) W c p)) (ix2 r k)) = _
  rw [wsel_block W c t ht hT hb p r k h0 h1]
  have hc := ht (ix3 ⟨p.val / 2, h0⟩ ⟨256 * (p.val % 2) + r.val, h1⟩ k)
  rw [lseBlk_apply, pickedAt_apply _ _ _ 19 (le_refl _), e, if_pos hc, xCls_apply _ _ hc, ex]
  simp only [ex]
  unfold lik lse cls
  rw [show (Fin.ofNat 19 (t (ix3 ⟨p.val / 2, h0⟩ ⟨256 * (p.val % 2) + r.val, h1⟩ k)).toNat) = ⟨_, hc⟩ from Fin.ext (Nat.mod_eq_of_lt hc)]

/-- An image's share of the loss, by its number. -/
def imgOf (b : Nat) : EReal := if h : b < 8 then Ideal.div (-(num x t ⟨b, h⟩)) (den t ⟨b, h⟩) else 0

include ht hx hT hb in
theorem acc_step (f : Vec Ideal S3 .f32) (b : Nat) (h : b < 8) :
    accAt (F := Ideal) W c f (2 * b + 2) (ValueIdx.ix1 2)
      = if b = 0 then imgOf x t b else (accAt (F := Ideal) W c f (2 * b) (ValueIdx.ix1 2) : EReal) + imgOf x t b := by
  have hN : cfg1.N = 16 := by decide +kernel
  have s0 := accAt_succ (F := Ideal) W c f ⟨2 * b, by omega⟩
  have s1 := accAt_succ (F := Ideal) W c f ⟨2 * b + 1, by omega⟩
  have d0 := den_block W c t ht hT hb ⟨2 * b, by omega⟩ (by dsimp only; omega)
  have d1 := den_block W c t ht hT hb ⟨2 * b + 1, by omega⟩ (by dsimp only; omega)
  have n0 := num_block W c x t ht hx hT hb ⟨2 * b, by omega⟩ (by dsimp only; omega)
  have n1 := num_block W c x t ht hx hT hb ⟨2 * b + 1, by omega⟩ (by dsimp only; omega)
  dsimp only at s0 s1 d0 d1 n0 n1
  have q0 : 2 * b / 2 = b := by omega
  have q1 : (2 * b + 1) / 2 = b := by omega
  have r0 : 2 * b % 2 = 0 := by omega
  have r1 : (2 * b + 1) % 2 = 1 := by omega
  rw [d0, n0] at s0
  rw [d1, n1, s0] at s1
  simp only [q0, q1, r0, r1] at s1
  rw [show 2 * b + 2 = 2 * b + 1 + 1 from rfl, s1, acc_image]
  have en : imgOf x t b = _ := dif_pos h
  have h2 : (512 : Nat) = 2 * 256 := by norm_num
  rw [en, num, den, sum_runs 2 256 h2, sum_runs 2 256 h2, Fin.sum_univ_two, Fin.sum_univ_two]
  rfl

include ht hx hT hb in
/-- The loss. -/
theorem lossOf_eq : lossOf (F := Ideal) W c = lossSum x t := by
  have e : ∀ b : Nat, b < 8 → accAt (F := Ideal) W c (fun _ => (Scalar.ofBits .f32 0x00000000#32 : Ideal .f32)) (2 * b + 2) (ValueIdx.ix1 2)
      = ∑ i ∈ Finset.range (b + 1), imgOf x t i := by
    intro b
    induction b with
    | zero =>
      intro h
      rw [acc_step W c x t ht hx hT hb _ 0 h, if_pos rfl, Finset.sum_range_one]
    | succ b ih =>
      intro h
      rw [acc_step W c x t ht hx hT hb _ (b + 1) h, if_neg (by omega), show 2 * (b + 1) = 2 * b + 2 from rfl, ih (by omega), ← Finset.sum_range_succ]
  refine (e 7 (by omega)).trans ?_
  rw [Finset.sum_range]
  exact Finset.sum_congr rfl fun b _ => dif_pos b.isLt

end Cert.Proof.K

end
-- ==== Proof.Tally.lean ====
/-
  The kernel's class counts over the extended reals: the 32 tiles' partial histograms, added over tiles and lanes, are the
  numbers of pixels of each class.
-/
module

public import proofs.«01_k».proof.Proof.Hist
public import proofs.«01_k».proof.Proof.Spec

@[expose] public section

noncomputable section

namespace Cert.Proof.K

open Cert.KernelIdeal Cert.KernelIdeal.Gen
open Idealize.ShloMosaic

/-- A scatter-add of ones adds to each place the number of lanes that name it. -/
theorem scat_apply {v : IVec S16 32} (h : k0_chk1 v) (f : Vec Ideal S1216 .f32) (p : Fin 1216) :
    scat f v (ix1 p) = f (ix1 p) + ∑ k : Fin 16, if (v (ix1 k)).toNat = p.val then (1 : EReal) else 0 := by
  unfold scat
  rw [dif_pos h]
  unfold storeIdx
  refine foldl_adds_fin (n := 16) _ (fun k : Fin 16 => if (v (ix1 k)).toNat = p.val then (1 : EReal) else 0) (ix1 p) (fun f k => ?_) f
  have ek : (Shape.ofLane k : S16.Idx) = ix1 k := by
    funext a; obtain rfl : a = 0 := Subsingleton.elim _ _; rfl
  rw [if_pos (show (fun _ : S16.Idx => 1#1) (Shape.ofLane k) = 1 from rfl)]
  by_cases e : (v (ix1 k)).toNat = p.val
  · rw [if_pos e]
    have ei : idxAt (s := S1216) (t := S16) ![v] h (Shape.ofLane k) = ix1 p := by
      rw [ek]; funext a; obtain rfl : a = 0 := Subsingleton.elim _ _; exact Fin.ext e
    refine (if_pos (fun a => congrArg (fun i : S1216.Idx => (i a).val) ei.symm)).trans ?_
    show (f (idxAt (s := S1216) (t := S16) ![v] h (Shape.ofLane k)) : EReal) + Ideal.ofBits .f32 0x3F800000#32 = _
    rw [ei, Ideal.ofBits_one_f32]
  · rw [if_neg e, add_zero]
    refine if_neg fun h' => e ?_
    have := h' 0
    rw [ek] at this
    exact this.symm

/-- The places sixteen classes are counted at: sixteen times the class, plus the lane, plus where the sub-histogram starts. -/
theorem tIdx_apply (t : Vec Ideal S128x512 .i32) (ht : ∀ x, (t x : BitVec 32).toNat < 19) (r : Fin 128) (j : Fin 32) (k : Fin 16) :
    (tIdx (F := Ideal) (subOff j.val) (piece t r j) (ix1 k)).toNat
      = 16 * (t (ix2 r ⟨16 * j.val + k.val, by have := j.isLt; have := k.isLt; omega⟩) : BitVec 32).toNat + k.val + 304 * (j.val % 4) := by
  have e1 : Shape.reshapeEquiv shapeCasts_S1x16_S16 (ix1 k) = ix2 0 k := by
    have := k.isLt
    pointwise
  have e2 : piece t r j (ix2 0 k) = t (ix2 r ⟨16 * j.val + k.val, by have := j.isLt; have := k.isLt; omega⟩) := by
    unfold piece
    rw [← ix2_eq_valueIdx]; rfl
  show (piece t r j (Shape.reshapeEquiv shapeCasts_S1x16_S16 (ix1 k)) * 16#32 + lanes (ix1 k) + subOff j.val : BitVec 32).toNat = _
  rw [e1, e2]
  have h1 := ht (ix2 r ⟨16 * j.val + k.val, by have := j.isLt; have := k.isLt; omega⟩)
  generalize (t (ix2 r ⟨16 * j.val + k.val, by have := j.isLt; have := k.isLt; omega⟩) : BitVec 32) = w at h1 ⊢
  have hk := k.isLt
  have e3 : lanes (ix1 k) = BitVec.ofNat 32 (0 * 16 + k.val) := rfl
  rw [e3]
  unfold subOff
  simp only [BitVec.toNat_add, BitVec.toNat_mul, BitVec.toNat_ofNat]
  omega

variable (t : Vec Ideal S128x512 .i32) (ht : ∀ x, (t x : BitVec 32).toNat < 19)

/-- What row `r` adds to place `p`. -/
def rowHits (t : Vec Ideal S128x512 .i32) (p : Nat) (r : Fin 128) : EReal := ∑ j : Fin 32, ∑ k : Fin 16,
  if 16 * (t (ix2 r ⟨16 * j.val + k.val, by have := j.isLt; have := k.isLt; omega⟩) : BitVec 32).toNat + k.val + 304 * (j.val % 4) = p then 1 else 0

include ht

theorem rowStep_apply (r : Fin 128) (f : Vec Ideal S1216 .f32) (p : Fin 1216) : rowStep t r f (ix1 p) = f (ix1 p) + rowHits t p.val r := by
  refine foldl_adds_fin (n := 32) (fun f j => scat (F := Ideal) f (tIdx (F := Ideal) (subOff j.val) (piece t r j))) _ (ix1 p) (fun f j => ?_) f
  have hs : (subOff j.val).toNat ≤ 912 := by unfold subOff; rw [BitVec.toNat_ofNat]; have := Nat.mod_lt j.val (show 0 < 4 by omega); exact (Nat.mod_le _ _).trans (by omega)
  rw [scat_apply (chk_tIdx hs (v := piece t r j) fun x => ht _)]
  exact congrArg _ (Finset.sum_congr rfl fun k _ => by rw [tIdx_apply t ht])

theorem histAt_apply (p : Fin 1216) : ∀ n : Nat, n ≤ 128 →
    histAt t n (ix1 p) = ∑ r ∈ Finset.range n, if h : r < 128 then rowHits t p.val ⟨r, h⟩ else 0
  | 0, _ => by
    show Ideal.ofBits .f32 0x00000000#32 = _
    rw [Ideal.ofBits_zero_f32, Finset.range_zero, Finset.sum_empty]
  | n + 1, h => by
    rw [Finset.sum_range_succ, ← histAt_apply p n (by omega), dif_pos (show n < 128 by omega)]
    show (if h : n < 128 then rowStep t ⟨n, h⟩ (histAt t n) else histAt t n) (ix1 p) = _
    rw [dif_pos (show n < 128 by omega), rowStep_apply t ht]

/-- A sub-histogram's place after the whole band. -/
theorem hist_apply (p : Fin 1216) : histAt t 128 (ix1 p) = ∑ r : Fin 128, rowHits t p.val r := by
  rw [histAt_apply t ht p 128 (le_refl _), Finset.sum_range]
  exact Finset.sum_congr rfl fun r _ => dif_pos r.isLt

/-- The four sub-histograms' places of a class and lane, added. -/
theorem tileOut_apply (x : Fin 304) :
    tileOut (histAt t 128) (ix1 x) = ∑ q : Fin 4, ∑ r : Fin 128, rowHits t (304 * q.val + x.val) r := by
  have hx := x.isLt
  rw [Fin.sum_univ_four]
  have e := fun p : Fin 1216 => hist_apply t ht p
  simp only [ix1_eq_valueIdx] at e ⊢
  show (((histAt t 128 (ValueIdx.ix1 ⟨x.val, _⟩) : EReal) + histAt t 128 (ValueIdx.ix1 ⟨304 + x.val, _⟩)) + histAt t 128 (ValueIdx.ix1 ⟨608 + x.val, _⟩))
    + histAt t 128 (ValueIdx.ix1 ⟨912 + x.val, _⟩) = _
  rw [e, e, e, e]
  simp

omit ht

/-- A sum over two ranges and a third, the third taken first. -/
theorem sum_third {α β γ : Type*} [Fintype α] [Fintype β] [Fintype γ] (f : α → β → γ → EReal) :
    ∑ a, ∑ b, ∑ c, f a b c = ∑ c, ∑ a, ∑ b, f a b c :=
  (Finset.sum_congr rfl fun _ _ => Finset.sum_comm).trans Finset.sum_comm

/-- Of the places of class `n`, over lanes and sub-histograms, a pixel of class `w` at lane `k` hits one when its class is
    `n` and none when it is not. -/
theorem hits_once (w j : Nat) (k : Fin 16) (n : Nat) :
    ∑ l : Fin 16, ∑ q : Fin 4, (if 16 * w + k.val + 304 * (j % 4) = 304 * q.val + (16 * n + l.val) ∧ w < 19 ∧ n < 19 then (1 : EReal) else 0)
      = if w = n ∧ w < 19 ∧ n < 19 then 1 else 0 := by
  by_cases e : w = n ∧ w < 19 ∧ n < 19
  · obtain ⟨rfl, h, h'⟩ := e
    rw [if_pos ⟨rfl, h, h'⟩, Finset.sum_eq_single k, Finset.sum_eq_single (⟨j % 4, by omega⟩ : Fin 4), if_pos ⟨by dsimp only; omega, h, h'⟩]
    · intro q _ hq
      refine if_neg fun hh => hq (Fin.ext ?_)
      have := hh.1
      show q.val = j % 4
      omega
    · simp
    · intro l _ hl
      refine Finset.sum_eq_zero fun q _ => if_neg fun hh => hl (Fin.ext ?_)
      have := hh.1
      have := q.isLt; have := l.isLt; have := k.isLt
      omega
    · simp
  · rw [if_neg e]
    refine Finset.sum_eq_zero fun l _ => Finset.sum_eq_zero fun q _ => if_neg fun hh => e ⟨?_, hh.2⟩
    have := hh.1; have := hh.2
    have := q.isLt; have := l.isLt; have := k.isLt
    omega

include ht

/-- A band's partial histogram of one class, added over the lanes, counts the band's pixels of the class. -/
theorem band_count (n : Fin 19) :
    ∑ l : Fin 16, tileOut (histAt t 128) (ix1 ⟨16 * n.val + l.val, by have := n.isLt; have := l.isLt; omega⟩)
      = ∑ r : Fin 128, ∑ c : Fin 512, if (t (ix2 r c) : BitVec 32).toNat = n.val then (1 : EReal) else 0 := by
  have hn := n.isLt
  have e1 : ∑ l : Fin 16, tileOut (histAt t 128) (ix1 ⟨16 * n.val + l.val, by have := n.isLt; have := l.isLt; omega⟩)
      = ∑ l : Fin 16, ∑ q : Fin 4, ∑ r : Fin 128, rowHits t (304 * q.val + (16 * n.val + l.val)) r :=
    Finset.sum_congr rfl fun l _ => tileOut_apply t ht _
  rw [e1, sum_third]
  refine Finset.sum_congr rfl fun r _ => ?_
  rw [sum_runs 32 16 (show 512 = 32 * 16 by norm_num)]
  unfold rowHits
  rw [sum_third]
  refine Finset.sum_congr rfl fun j _ => ?_
  rw [sum_third]
  refine Finset.sum_congr rfl fun k _ => ?_
  have h := ht (ix2 r ⟨16 * j.val + k.val, by have := j.isLt; have := k.isLt; omega⟩)
  have e := hits_once (t (ix2 r ⟨16 * j.val + k.val, by have := j.isLt; have := k.isLt; omega⟩) : BitVec 32).toNat j.val k n.val
  simpa only [h, hn, and_true] using e

end Cert.Proof.K

end
-- ==== Proof.Counts.lean ====
/-
  The counts the kernel's second call is given, over the extended reals: at each class the number of its pixels.
-/
module

public import proofs.«01_k».proof.Proof.Main
public import proofs.«01_k».proof.Proof.Tally

@[expose] public section

noncomputable section

namespace Cert.Proof.K

open Cert.KernelIdeal Cert.KernelIdeal.Gen
open Idealize.ShloMosaic

/-- A sum over tiles, classes and lanes that keeps one class is a sum over tiles and lanes. -/
theorem sum_class (v : S32x19x16.Idx → EReal) (n : Fin 19) :
    ∑ i ∈ Finset.univ.filter (fun i => reducesTo_S32x19x16_S19_d0_2.drop i = ix1 n), v i = ∑ w : Fin 32, ∑ l : Fin 16, v (ix3 w n l) := by
  rw [← Fintype.sum_prod_type' (f := fun (w : Fin 32) (l : Fin 16) => v (ix3 w n l))]
  refine Finset.sum_filter_eq_sum_of_fiber _ (fun k : Fin 32 × Fin 16 => ix3 k.1 n k.2)
    (fun _ _ e => Prod.ext (congrFun e 0) (congrFun e 2)) (fun i => ?_) v
  constructor
  · intro h
    refine ⟨(i 0, i 2), ?_⟩
    have h1 : i 1 = n := congrFun h 0
    funext a
    match a with
    | ⟨0, _⟩ => rfl
    | ⟨1, _⟩ => exact h1.symm
    | ⟨2, _⟩ => rfl
  · rintro ⟨k, rfl⟩
    funext b
    obtain rfl : b = 0 := Subsingleton.elim _ _
    rfl

theorem cast_parts (v : S32x304.Idx → EReal) (w : Fin 32) (n : Fin 19) (l : Fin 16) :
    shapeCast S32x19x16 v shapeCasts_S32x304_S32x19x16 (ix3 w n l)
      = v (ix2 w ⟨16 * n.val + l.val, by have := n.isLt; have := l.isLt; omega⟩) := by
  have := n.isLt; have := l.isLt
  pointwise
  exact congrArg (fun k => v (ix2 w k)) (Fin.ext (by show n.val * 16 + l.val = 16 * n.val + l.val; omega))

/-- A sum over the rows of all bands is a sum over the rows of all images. -/
theorem sum_bands (f : Fin 8 → Fin 512 → EReal) :
    ∑ w : Fin 32, ∑ r : Fin 128, f ⟨w.val / 4, by omega⟩ ⟨128 * (w.val % 4) + r.val, by omega⟩ = ∑ b : Fin 8, ∑ r : Fin 512, f b r := by
  rw [sum_runs 8 4 (show 32 = 8 * 4 by norm_num)]
  refine Finset.sum_congr rfl fun b _ => ?_
  rw [sum_runs 4 128 (show 512 = 4 * 128 by norm_num)]
  refine Finset.sum_congr rfl fun q _ => Finset.sum_congr rfl fun r _ => ?_
  have e1 : (4 * b.val + q.val) / 4 = b.val := by have := q.isLt; omega
  have e2 : (4 * b.val + q.val) % 4 = q.val := by have := q.isLt; omega
  exact congr (congrArg f (Fin.ext e1)) (Fin.ext (by show 128 * ((4 * b.val + q.val) % 4) + r.val = _; rw [e2]))

/-- The counts. -/
theorem bins_count (t : Vec Ideal S8x512x512 .i32) (ht : ∀ x, (t x : BitVec 32).toNat < 19) (n : Fin 19) :
    binsOf t (ix1 n) = cnt t n.val := by
  show (constant (F := Ideal) S_ .f32 0x00000000#32 _ : EReal) + ∑ i ∈ Finset.univ.filter (fun i => reducesTo_S32x19x16_S19_d0_2.drop i = ix1 n),
    shapeCast S32x19x16 (parts t) shapeCasts_S32x304_S32x19x16 i = _
  rw [sum_class]
  have e0 : ∀ i, (constant (F := Ideal) S_ .f32 0x00000000#32 i : EReal) = 0 := fun _ => Ideal.ofBits_zero_f32
  rw [e0, zero_add]
  have e1 : ∀ w : Fin 32, ∑ l : Fin 16, shapeCast S32x19x16 (parts t) shapeCasts_S32x304_S32x19x16 (ix3 w n l)
      = ∑ r : Fin 128, ∑ c : Fin 512, if cls t ⟨w.val / 4, by omega⟩ ⟨128 * (w.val % 4) + r.val, by omega⟩ c = n.val then (1 : EReal) else 0 := by
    intro w
    have := band_count (bandOf t w) (fun x => ht _) n
    refine Eq.trans (Finset.sum_congr rfl fun l _ => (cast_parts _ w n l).trans ?_) (this.trans ?_)
    · exact congrArg (tileOut (histAt (bandOf t w) 128)) (ix1_eq_valueIdx _).symm
    · refine Finset.sum_congr rfl fun r _ => Finset.sum_congr rfl fun c _ => ?_
      unfold bandOf cls
      rw [ix3_eq_valueIdx]; rfl
  rw [Finset.sum_congr rfl fun w _ => e1 w]
  exact sum_bands fun b r => ∑ c : Fin 512, if cls t b r c = n.val then (1 : EReal) else 0

end Cert.Proof.K

end
-- ==== Proof.RefTerm.lean ====
/-
  The reference's result, cut into named steps over the extended reals: the class counts, the class weights, the pixels'
  weights, the log-softmax, the picked log-likelihoods, and the sum of the images' quotients.
-/
module

public import proofs.«01_k».proof.Proof.Gen.ReferenceIdeal.Run
public import proofs.«01_k».proof.Proof.Spec

@[expose] public section

noncomputable section

namespace Cert.Proof.K

open Cert.ReferenceIdeal Cert.ReferenceIdeal.Gen
open Idealize.ShloMosaic

/-! ## The counts -/

/-- The classes in one line. -/
def flatT (t : Targets) : IVec S2097152 32 := shapeCast S2097152 t shapeCasts_S8x512x512_S2097152

/-- One number at every place of the line. -/
def flatK (n : BitVec 32) : IVec S2097152 32 := broadcastInDim S2097152 ![] bcast_S_S2097152 (constantI S_ 32 n)

/-- Which places hold a class. -/
def isIn (t : Targets) : IVec S2097152 1 := andi (cmpi .sge (flatT t) (flatK 0#32)) (cmpi .slt (flatT t) (flatK 19#32))

/-- The classes, 0 where there is none. -/
def clip (t : Targets) : IVec S2097152 32 :=
  maxsi (broadcastInDim S2097152 ![] bcast_S_S2097152 (id (constantI S_ 32 0#32))) (select (isIn t) (flatT t) (broadcastInDim S2097152 ![] bcast_S_S2097152 (id (constantI S_ 32 0#32))))

/-- Where each place is counted. -/
def countAt (t : Targets) : IVec S2097152x1 32 :=
  broadcastInDim S2097152x1 ![0] bcast_S2097152_S2097152x1_0 (select (cmpi .slt (clip t) (flatK 0#32)) (addi (clip t) (flatK 19#32)) (clip t))

/-- One number at every class. -/
def allCls (b : BitVec 32) : FVec Ideal S19 .f32 := broadcastInDim S19 ![] bcast_S_S19 (constant S_ .f32 b)

/-- The counts. -/
def refCnt (t : Targets) : FVec Ideal S19 .f32 :=
  Host.scatterAdd scatter_S19_S2097152x1_S2097152_n_0_0_1 (allCls 0x00000000#32) (countAt t) (uitofp .f32 (isIn t))

/-- The classes' weights. -/
def refWts (t : Targets) : FVec Ideal S19 .f32 :=
  addf (mulf (mulf (uitofp .f32 (cmpf .une (refCnt t) (allCls 0x00000000#32))) (allCls 0x3F800000#32))
    (subf (allCls 0x3F800000#32) (Host.divf (refCnt t) (broadcastInDim S19 ![] bcast_S_S19 (Host.reduceAdd (refCnt t) (constant S_ .f32 0x00000000#32) reducesTo_S19_S_d0 h_S_)))))
    (allCls 0x3F800000#32)

/-! ## The pixels -/

/-- Which pixels count. -/
def valid (t : Targets) : IVec S8x512x512 1 := cmpi .ne t (broadcastInDim S8x512x512 ![] bcast_S_S8x512x512 (constantI S_ 32 255#32))

/-- The classes, 0 where the pixel does not count. -/
def safeT (t : Targets) : IVec S8x512x512 32 := select (valid t) t (broadcastInDim S8x512x512 ![] bcast_S_S8x512x512 (id (constantI S_ 32 0#32)))

/-- The pixels' weights. -/
def refW (t : Targets) : FVec Ideal S8x512x512 .f32 :=
  mulf (Host.gather gather_S19_S8x512x512x1_S8x512x512_n_0_n_n_0_3_1 (refWts t)
    (broadcastInDim S8x512x512x1 ![0, 1, 2] bcast_S8x512x512_S8x512x512x1_0_1_2
      (select (cmpi .slt (safeT t) (broadcastInDim S8x512x512 ![] bcast_S_S8x512x512 (constantI S_ 32 0#32)))
        (addi (safeT t) (broadcastInDim S8x512x512 ![] bcast_S_S8x512x512 (constantI S_ 32 19#32))) (safeT t))))
    (uitofp .f32 (valid t))

/-- The classes with a class axis of one. -/
def colT (t : Targets) : IVec S8x1x512x512 32 := broadcastInDim S8x1x512x512 ![0, 2, 3] bcast_S8x512x512_S8x1x512x512_0_2_3 (safeT t)

/-- Which logit each pixel picks. -/
def pickT (t : Targets) : IVec S8x1x512x512x1 32 :=
  shapeCast S8x1x512x512x1 (select (cmpi .slt (colT t) (broadcastInDim S8x1x512x512 ![] bcast_S_S8x1x512x512 (constantI S_ 32 0#32)))
    (addi (colT t) (broadcastInDim S8x1x512x512 ![] bcast_S_S8x1x512x512 (constantI S_ 32 19#32))) (colT t)) shapeCasts_S8x1x512x512_S8x1x512x512x1

/-- Which picks are in range. -/
def pickOk (t : Targets) : IVec S8x1x512x512 1 :=
  Host.reduce IntOp.andi (andi (cmpi .sge (pickT t) (broadcastInDim S8x1x512x512x1 ![] bcast_S_S8x1x512x512x1 (constantI S_ 32 0#32)))
    (cmpi .sle (pickT t) (broadcastInDim S8x1x512x512x1 ![0, 1, 2, 3, 4] bcast_S1x1x1x1x1_S8x1x512x512x1_0_1_2_3_4 (broadcastInDim S1x1x1x1x1 ![4] bcast_S1_S1x1x1x1x1_4 (constantI S1 32 18#32)))))
    (constantI S_ 1 1#1) reducesTo_S8x1x512x512x1_S8x1x512x512_d4 h_S_

/-- Each pixel's greatest logit. -/
def refMax (x : Logits) : FVec Ideal S8x512x512 .f32 :=
  maximumf (broadcastInDim S8x512x512 ![] bcast_S_S8x512x512 (constant S_ .f32 0xFF800000#32))
    (Host.reduce FloatOps.maximumf x (constant (F := Ideal) S_ .f32 0xFF800000#32) reducesTo_S8x19x512x512_S8x512x512_d1 h_S_)

/-- The logits less the pixel's greatest. -/
def shift (x : Logits) : FVec Ideal S8x19x512x512 .f32 :=
  subf (φ := .f32) (x : FVec Ideal S8x19x512x512 .f32) (broadcastInDim S8x19x512x512 ![0, 1, 2, 3] bcast_S8x1x512x512_S8x19x512x512_0_1_2_3
    (broadcastInDim S8x1x512x512 ![0, 2, 3] bcast_S8x512x512_S8x1x512x512_0_2_3 (refMax x)))

/-- The log-softmax. -/
def refLog (x : Logits) : FVec Ideal S8x19x512x512 .f32 :=
  subf (shift x) (broadcastInDim S8x19x512x512 ![0, 1, 2, 3] bcast_S8x1x512x512_S8x19x512x512_0_1_2_3
    (Host.log (broadcastInDim S8x1x512x512 ![0, 2, 3] bcast_S8x512x512_S8x1x512x512_0_2_3
      (Host.reduceAdd (Host.exp (shift x)) (constant S_ .f32 0x00000000#32) reducesTo_S8x19x512x512_S8x512x512_d1 h_S_))))

/-- The pixels' own log-likelihoods. -/
def refPick (x : Logits) (t : Targets) : FVec Ideal S8x512x512 .f32 :=
  shapeCast S8x512x512 (select (pickOk t) (Host.gather gather_S8x19x512x512_S8x1x512x512x1_S8x1x512x512_n_1_023_023_1_4_1111 (refLog x) (pickT t))
    (broadcastInDim S8x1x512x512 ![] bcast_S_S8x1x512x512 (constant S_ .f32 0x7FC00000#32))) shapeCasts_S8x1x512x512_S8x512x512

/-- The loss. -/
def refLoss (x : Logits) (t : Targets) : FVec Ideal S_ .f32 :=
  Host.reduceAdd (Host.divf (Host.negf (Host.reduceAdd (mulf (refW t) (refPick x t)) (constant S_ .f32 0x00000000#32) reducesTo_S8x512x512_S8_d1_2 h_S_))
    (Host.reduceAdd (refW t) (constant S_ .f32 0x00000000#32) reducesTo_S8x512x512_S8_d1_2 h_S_)) (constant S_ .f32 0x00000000#32) reducesTo_S8_S_d0 h_S_

/-- The reference's result is these steps in turn. -/
theorem ref_eq (m : (ℓ : Loc nD τ sig) → Buf (Elt Ideal) ℓ) (c : Dev nD) :
    Value.res_main_v51 (F := Ideal) m c = refLoss (m ((c.tc : Thread nD τ).loc main_arg0)) (m ((c.tc : Thread nD τ).loc main_arg1)) := by
  unfold Value.res_main_v51
  rfl

end Cert.Proof.K

end
-- ==== Proof.RefCount.lean ====
/-
  The reference's counts and weights over the extended reals, where every class is below 19: its scatter-add counts the
  pixels of each class, and its weights are the classes' weights.
-/
module

public import proofs.«01_k».proof.Proof.RefTerm
public import Idealize.ShloMosaic.Lib.Routing.OpsPair

@[expose] public section

noncomputable section

namespace Cert.Proof.K

open Cert.ReferenceIdeal Cert.ReferenceIdeal.Gen
open Idealize.ShloMosaic

/-- What the reference asks of a class word below 19. -/
theorem word_facts (w : BitVec 32) (h : w.toNat < 19) :
    IntOp.cmpi .sge w 0#32 = 1#1 ∧ IntOp.cmpi .slt w 19#32 = 1#1 ∧ IntOp.cmpi .slt w 0#32 = 0#1 ∧ IntOp.cmpi .ne w 255#32 = 1#1
      ∧ IntOp.cmpi .sle w 18#32 = 1#1 ∧ IntOp.maxsi 0#32 w = w ∧ w.toInt = w.toNat := by
  have : ∀ n : Fin 19, IntOp.cmpi .sge (BitVec.ofNat 32 n.val) 0#32 = 1#1 ∧ IntOp.cmpi .slt (BitVec.ofNat 32 n.val) 19#32 = 1#1
      ∧ IntOp.cmpi .slt (BitVec.ofNat 32 n.val) 0#32 = 0#1 ∧ IntOp.cmpi .ne (BitVec.ofNat 32 n.val) 255#32 = 1#1
      ∧ IntOp.cmpi .sle (BitVec.ofNat 32 n.val) 18#32 = 1#1 ∧ IntOp.maxsi 0#32 (BitVec.ofNat 32 n.val) = BitVec.ofNat 32 n.val
      ∧ (BitVec.ofNat 32 n.val).toInt = (BitVec.ofNat 32 n.val).toNat := by decide +kernel
  have e : BitVec.ofNat 32 w.toNat = w := by simp
  have := this ⟨w.toNat, h⟩
  dsimp only at this
  rwa [e] at this

/-- A share kept where the count is not zero, by a product with the comparison's bit. -/
theorem weight_by_presence (a tot : EReal) :
    FloatOps.uitofp (F := Ideal) .f32 (FloatOps.cmpf (F := Ideal) (φ := .f32) .une a (0 : EReal)) * (1 - Ideal.div a tot)
      = if a = 0 then 0 else 1 - Ideal.div a tot := by
  show (((Ideal.cmp .une a 0).toNat : ℝ) : EReal) * _ = _
  by_cases h : a = 0
  · rw [if_pos h, h]
    simp [Ideal.cmp]
  · rw [if_neg h]
    simp [Ideal.cmp, h]

variable (t : Targets) (ht : ∀ p, (t p).toNat < 19)

/-- The pixel at a place of the line. -/
abbrev pix (k : Fin 2097152) : (⟨3, ![8, 512, 512]⟩ : Shape).Idx := Shape.reshapeEquiv shapeCasts_S8x512x512_S2097152 (ix1 k)

include ht

theorem isIn_apply (k : Fin 2097152) : isIn t (ix1 k) = 1#1 := by
  obtain ⟨h1, h2, -⟩ := word_facts (t (pix k)) (ht _)
  show IntOp.andi (IntOp.cmpi .sge (t (pix k)) 0#32) (IntOp.cmpi .slt (t (pix k)) 19#32) = _
  rw [h1, h2]
  rfl

theorem clip_apply (k : Fin 2097152) : clip t (ix1 k) = t (pix k) := by
  obtain ⟨-, -, -, -, -, h, -⟩ := word_facts (t (pix k)) (ht _)
  show IntOp.maxsi 0#32 (Scalar.select (isIn t (ix1 k)) (t (pix k)) 0#32) = _
  rw [isIn_apply t ht]
  exact h

theorem countAt_apply (k : Fin 2097152) : countAt t (ix2 k 0) = t (pix k) := by
  obtain ⟨-, -, h, -⟩ := word_facts (t (pix k)) (ht _)
  have e : countAt t (ix2 k 0) = Scalar.select (IntOp.cmpi .slt (clip t (ix1 k)) 0#32) (IntOp.addi (clip t (ix1 k)) 19#32) (clip t (ix1 k)) := by
    pointwise [countAt, flatK]
  rw [e, clip_apply t ht, h]
  rfl

/-- Where each place lands: at its class. -/
theorem lands (k : Fin 2097152) (n : Fin 19) :
    scatter_S19_S2097152x1_S2097152_n_0_0_1.resultIdx? (ix1 k) (countAt t) = some (ix1 n) ↔ (t (pix k)).toNat = n.val := by
  obtain ⟨-, -, -, -, -, -, h⟩ := word_facts (t (pix k)) (ht _)
  have hs : scatter_S19_S2097152x1_S2097152_n_0_0_1.siIdx (ix1 k) ⟨0, by decide⟩ = ix2 k 0 := by
    funext b
    match b with
    | ⟨0, _⟩ => rfl
    | ⟨1, _⟩ => rfl
  have e : scatter_S19_S2097152x1_S2097152_n_0_0_1.start (ix1 k) (countAt t) 0 = ((t (pix k)).toNat : Int) := by
    rw [← h, ← countAt_apply t ht, ← hs]
    rfl
  rw [ix1_eq_valueIdx n, Routing.resultIdx?_ix1]
  have ew : scatter_S19_S2097152x1_S2097152_n_0_0_1.window (ix1 k) 0 = 0 := by
    unfold ScatterDims.window
    exact dif_neg (by decide)
  rw [e, ew]
  omega

omit ht

/-- A scatter-add of ones into zeros counts the places that land. -/
theorem scatter_ones (z : FVec Ideal S19 .f32) (idx : IVec S2097152x1 32) (upd : FVec Ideal S2097152 .f32) (w : Fin 2097152 → Nat) (n : Fin 19)
    (hz : z (ix1 n) = (0 : EReal)) (h1 : ∀ k, scatter_S19_S2097152x1_S2097152_n_0_0_1.resultIdx? (ix1 k) idx = some (ix1 n) ↔ w k = n.val)
    (h2 : ∀ k : Fin 2097152, upd (ix1 k) = (1 : EReal)) :
    Host.scatterAdd scatter_S19_S2097152x1_S2097152_n_0_0_1 z idx upd (ix1 n) = ∑ k : Fin 2097152, if w k = n.val then (1 : EReal) else 0 := by
  show (z (ix1 n) : EReal) + ∑ j ∈ Finset.univ.filter (fun j => scatter_S19_S2097152x1_S2097152_n_0_0_1.resultIdx? j idx = some (ix1 n)), (upd j : EReal) = _
  rw [hz, zero_add, Finset.sum_filter, sum_idx1]
  simp only [h1, h2]

/-- A sum over the line is a sum over the pixels. -/
theorem sum_line (n : Nat) : ∑ k : Fin 2097152, (if (t (pix k)).toNat = n then (1 : EReal) else 0) = cnt t n := by
  have e := Equiv.sum_comp (Shape.reshapeEquiv shapeCasts_S8x512x512_S2097152) (fun p => if (t p).toNat = n then (1 : EReal) else 0)
  rw [sum_idx1, sum_idx3] at e
  exact e

include ht

/-- The counts. -/
theorem refCnt_apply (n : Fin 19) : refCnt t (ix1 n) = cnt t n.val := by
  have h2 : ∀ k : Fin 2097152, uitofp (F := Ideal) .f32 (isIn t) (ix1 k) = (1 : EReal) := by
    intro k
    show FloatOps.uitofp (F := Ideal) .f32 (isIn t (ix1 k)) = (1 : EReal)
    rw [isIn_apply t ht]
    show (((1#1 : BitVec 1).toNat : ℝ) : EReal) = 1
    simp
  exact (scatter_ones _ _ _ (fun k => (t (pix k)).toNat) n Ideal.ofBits_zero_f32 (fun k => lands t ht k n) h2).trans (sum_line t n.val)

omit ht

/-- The weights of classes counted `v`. -/
def wtsOf (v : FVec Ideal S19 .f32) : FVec Ideal S19 .f32 :=
  addf (mulf (mulf (uitofp .f32 (cmpf .une v (allCls 0x00000000#32))) (allCls 0x3F800000#32))
    (subf (allCls 0x3F800000#32) (Host.divf v (broadcastInDim S19 ![] bcast_S_S19 (Host.reduceAdd v (constant S_ .f32 0x00000000#32) reducesTo_S19_S_d0 h_S_)))))
    (allCls 0x3F800000#32)

theorem wtsOf_apply (v : FVec Ideal S19 .f32) (n : Fin 19) :
    wtsOf v (ix1 n) = (if v (ix1 n) = (0 : EReal) then (0 : EReal) else 1 - Ideal.div (v (ix1 n)) (∑ k : Fin 19, v (ix1 k))) + 1 := by
  have e : wtsOf v (ix1 n) = FloatOps.uitofp (F := Ideal) .f32 (FloatOps.cmpf (F := Ideal) (φ := .f32) .une (v (ix1 n)) (0 : EReal)) * 1
      * (1 - Ideal.div (v (ix1 n)) (0 + ∑ k : Fin 19, v (ix1 k))) + 1 := by
    pointwise [wtsOf, allCls]
  rw [e, zero_add, mul_one]
  exact congrArg (· + 1) (weight_by_presence _ _)

include ht

/-- The weights. -/
theorem refWts_apply (n : Fin 19) : refWts t (ix1 n) = wt t n.val := by
  refine (wtsOf_apply (refCnt t) n).trans ?_
  simp only [refCnt_apply t ht]
  rfl

end Cert.Proof.K

end
-- ==== Proof.RefGather.lean ====
/-
  The reference's two gathers, each read at one result index: the lookup of a class's weight, and the pick of one logit
  per pixel. Each start index is taken to be a class, so that nothing is clamped.
-/
module

public import proofs.«01_k».proof.Proof.RefTerm

@[expose] public section

noncomputable section

namespace Cert.Proof.K

open Cert.ReferenceIdeal Cert.ReferenceIdeal.Gen
open Idealize.ShloMosaic

/-- A class is not clamped. -/
theorem min_class (w : BitVec 32) (n : Fin 19) (h : w.toInt = (n.val : Int)) : min w.toInt.toNat (19 - 1) = n.val := by
  rw [h]
  have := n.isLt
  omega

/-- The lookup: the weight of the pixel's class. -/
theorem lookup_apply {α : Type} (v : S19.Idx → α) (idx : IVec S8x512x512x1 32) (b : Fin 8) (r c : Fin 512) (n : Fin 19)
    (h : (idx (ix4 b r c 0)).toInt = (n.val : Int)) :
    Host.gather gather_S19_S8x512x512x1_S8x512x512_n_0_n_n_0_3_1 v idx (ix3 b r c) = v (ix1 n) := by
  unfold Host.gather
  refine congrArg v (funext fun a => ?_)
  obtain rfl : a = 0 := Subsingleton.elim _ _
  refine Fin.ext ?_
  show GatherDims.start _ (ix3 b r c) idx 0 + GatherDims.batchCoord _ (ix3 b r c) 0 + GatherDims.offCoord _ (ix3 b r c) 0 = n.val
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S19_S8x512x512x1_S8x512x512_n_0_n_n_0_3_1.startIndexMap from List.mem_singleton.mpr rfl)]
  refine Eq.trans (congrArg (fun j => min (idx j).toInt.toNat (19 - 1)) (?_ : _ = ix4 b r c 0)) (min_class _ n h)
  funext a
  match a with
  | ⟨0, _⟩ => rfl
  | ⟨1, _⟩ => rfl
  | ⟨2, _⟩ => rfl
  | ⟨3, _⟩ => rfl

/-- The axes of the pick. -/
abbrev pickDims : GatherDims S8x19x512x512 S8x1x512x512x1 S8x1x512x512 := gather_S8x19x512x512_S8x1x512x512x1_S8x1x512x512_n_1_023_023_1_4_1111

/-- The pick: the pixel's entry of its class. -/
theorem pick_apply {α : Type} (v : S8x19x512x512.Idx → α) (idx : IVec S8x1x512x512x1 32) (b : Fin 8) (r c : Fin 512) (n : Fin 19)
    (h : (idx (ix5 b 0 r c 0)).toInt = (n.val : Int)) :
    Host.gather pickDims v idx (ix4 b 0 r c) = v (ix4 b n r c) := by
  unfold Host.gather
  refine congrArg v (funext fun a => Fin.ext ?_)
  show GatherDims.start pickDims (ix4 b 0 r c) idx a + GatherDims.batchCoord pickDims (ix4 b 0 r c) a + GatherDims.offCoord pickDims (ix4 b 0 r c) a = _
  have hb' : ∀ a : Fin 4, a = 0 ∨ a = 2 ∨ a = 3 → a ∈ ([0, 2, 3] : List (Fin 4)) := by decide
  have hb : ∀ a : Fin 4, a = 0 ∨ a = 2 ∨ a = 3 → a ∈ pickDims.operandBatchingDims := hb'
  have batch : ∀ a : Fin 4, a = 0 ∨ a = 2 ∨ a = 3 →
      GatherDims.start pickDims (ix4 b 0 r c) idx a
        + GatherDims.batchCoord pickDims (ix4 b 0 r c) a
        + GatherDims.offCoord pickDims (ix4 b 0 r c) a
        = GatherDims.batchCoord pickDims (ix4 b 0 r c) a := by
    intro a ha
    rw [GatherDims.start_batching _ _ _ _ (hb a ha),
      GatherDims.offCoord_eq_zero _ _ _ (fun h => ((GatherDims.mem_sKept _ _).mp h).2 (hb a ha)), Nat.zero_add, Nat.add_zero]
  have hc : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases hc with rfl | rfl | rfl | rfl
  · refine (batch 0 (by decide)).trans ?_
    unfold GatherDims.batchCoord
    rw [dif_pos (hb 0 (by decide))]
    rfl
  · have e1 : GatherDims.batchCoord pickDims (ix4 b 0 r c) 1 = 0 := GatherDims.batchCoord_eq_zero _ _ _ (by decide)
    have e2 : GatherDims.offCoord pickDims (ix4 b 0 r c) 1 = 0 :=
      GatherDims.offCoord_eq_zero _ _ _ (fun h => ((GatherDims.mem_sKept _ _).mp h).1 (List.mem_singleton.mpr rfl))
    rw [e1, e2, Nat.add_zero]
    unfold GatherDims.start
    rw [dif_pos (show (1 : Fin 4) ∈ pickDims.startIndexMap from List.mem_singleton.mpr rfl)]
    refine Eq.trans (congrArg (fun j => min (idx j).toInt.toNat (19 - 1)) (?_ : _ = ix5 b 0 r c 0)) (min_class _ n h)
    funext a
    match a with
    | ⟨0, _⟩ => rfl
    | ⟨1, _⟩ => rfl
    | ⟨2, _⟩ => rfl
    | ⟨3, _⟩ => rfl
    | ⟨4, _⟩ => rfl
  · refine (batch 2 (by decide)).trans ?_
    unfold GatherDims.batchCoord
    rw [dif_pos (hb 2 (by decide))]
    rfl
  · refine (batch 3 (by decide)).trans ?_
    unfold GatherDims.batchCoord
    rw [dif_pos (hb 3 (by decide))]
    rfl

end Cert.Proof.K

end
-- ==== Proof.RefPixels.lean ====
/-
  The reference's pixels where every class is below 19: every pixel counts, its weight is its class's, and the pick it asks
  for is in range.
-/
module

public import proofs.«01_k».proof.Proof.RefCount
public import proofs.«01_k».proof.Proof.RefGather
public import Idealize.ShloMosaic.Lib.ReduceAll

@[expose] public section

noncomputable section

namespace Cert.Proof.K

open Cert.ReferenceIdeal Cert.ReferenceIdeal.Gen
open Idealize.ShloMosaic

/-- A weight looked up and multiplied by a one is that weight. -/
theorem weigh_apply (v : FVec Ideal S19 .f32) (idx : IVec S8x512x512x1 32) (q : IVec S8x512x512 1) (b : Fin 8) (r c : Fin 512) (n : Fin 19)
    (h : (idx (ix4 b r c 0)).toInt = (n.val : Int)) (hq : q (ix3 b r c) = 1#1) :
    mulf (Host.gather gather_S19_S8x512x512x1_S8x512x512_n_0_n_n_0_3_1 v idx) (uitofp .f32 q) (ix3 b r c) = (v (ix1 n) : EReal) := by
  have e : uitofp (F := Ideal) .f32 q (ix3 b r c) = (1 : EReal) := by
    show FloatOps.uitofp (F := Ideal) .f32 (q (ix3 b r c)) = (1 : EReal)
    rw [hq]
    show (((1#1 : BitVec 1).toNat : ℝ) : EReal) = 1
    simp
  show (Host.gather gather_S19_S8x512x512x1_S8x512x512_n_0_n_n_0_3_1 v idx (ix3 b r c) : EReal) * uitofp (F := Ideal) .f32 q (ix3 b r c) = _
  rw [e, mul_one, lookup_apply v idx b r c n h]

variable (t : Targets) (ht : ∀ p, (t p).toNat < 19)

include ht

/-- Every pixel counts. -/
theorem valid_apply (p : S8x512x512.Idx) : valid t p = 1#1 := (word_facts (t p) (ht p)).2.2.2.1

/-- So its class is kept. -/
theorem safeT_apply (p : S8x512x512.Idx) : safeT t p = t p := by
  show Scalar.select (valid t p) (t p) _ = _
  rw [valid_apply t ht]
  rfl

/-- A class is not negative. -/
theorem wrap_apply (p : S8x512x512.Idx) : Scalar.select (IntOp.cmpi .slt (safeT t p) 0#32) (IntOp.addi (safeT t p) 19#32) (safeT t p) = t p := by
  rw [safeT_apply t ht, (word_facts (t p) (ht p)).2.2.1]
  rfl

/-- A pixel's weight is its class's. -/
theorem refW_apply (b : Fin 8) (r c : Fin 512) : refW t (ix3 b r c) = wt t (cls t b r c) := by
  refine (weigh_apply (refWts t) _ (valid t) b r c ⟨(t (ix3 b r c)).toNat, ht _⟩ ?_ (valid_apply t ht _)).trans (refWts_apply t ht _)
  refine Eq.trans (congrArg BitVec.toInt (?_ : _ = t (ix3 b r c))) (word_facts (t (ix3 b r c)) (ht _)).2.2.2.2.2.2
  refine Eq.trans ?_ (wrap_apply t ht (ix3 b r c))
  pointwise []

/-- Which logit a pixel picks: its class's. -/
theorem pickT_apply (b : Fin 8) (r c : Fin 512) : pickT t (ix5 b 0 r c 0) = t (ix3 b r c) := by
  refine Eq.trans ?_ (wrap_apply t ht (ix3 b r c))
  pointwise [pickT, colT]

/-- Every pick is in range. -/
theorem pickOk_apply (b : Fin 8) (r c : Fin 512) : pickOk t (ix4 b 0 r c) = 1#1 := by
  refine Host.reduce_andi_one _ _ _ _ _ rfl fun i => ?_
  have e : ∃ b : Fin 8, ∃ r c : Fin 512, i = ix5 b 0 r c 0 := by
    refine ⟨i 0, i 2, i 3, funext fun a => ?_⟩
    match a with
    | ⟨0, _⟩ => rfl
    | ⟨1, _⟩ => exact Subsingleton.elim (α := Fin 1) _ _
    | ⟨2, _⟩ => rfl
    | ⟨3, _⟩ => rfl
    | ⟨4, _⟩ => exact Subsingleton.elim (α := Fin 1) _ _
  obtain ⟨b, r, c, rfl⟩ := e
  have hw := word_facts (t (ix3 b r c)) (ht _)
  show IntOp.andi (IntOp.cmpi .sge (pickT t (ix5 b 0 r c 0)) 0#32) (IntOp.cmpi .sle (pickT t (ix5 b 0 r c 0)) 18#32) = 1#1
  rw [pickT_apply t ht, hw.1, hw.2.2.2.2.1]
  rfl

end Cert.Proof.K

end
-- ==== Proof.RefLik.lean ====
/-
  The reference's log-softmax over the extended reals: taking a pixel's greatest logit off before the exponentials, and off
  the logit, changes nothing, be that logit real or infinite.
-/
module

public import proofs.«01_k».proof.Proof.RefTerm

@[expose] public section

noncomputable section

namespace Cert.Proof.K

open Cert.ReferenceIdeal Cert.ReferenceIdeal.Gen
open Idealize.ShloMosaic

/-- A sum of reals is real. -/
theorem sum_coe {ι : Type*} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- An extended real below the top has a real exponential, its shift's being a multiple of it. -/
theorem exp_shift (y : EReal) (h : y ≠ ⊤) (m : ℝ) :
    ∃ e : ℝ, 0 ≤ e ∧ (y ≠ ⊥ → 0 < e) ∧ Ideal.exp y = (e : EReal) ∧ Ideal.exp (y - (m : EReal)) = ((e * Real.exp (-m) : ℝ) : EReal) := by
  induction y using EReal.rec with
  | bot =>
    refine ⟨0, le_refl _, fun h => absurd rfl h, by simp, ?_⟩
    rw [EReal.bot_sub, Ideal.exp_bot]
    simp
  | top => exact absurd rfl h
  | coe r =>
    refine ⟨Real.exp r, (Real.exp_pos r).le, fun _ => Real.exp_pos r, Ideal.exp_coe .., ?_⟩
    rw [← EReal.coe_sub, Ideal.exp_coe, sub_eq_add_neg, Real.exp_add]

/-- An exponential is not negative. -/
theorem exp_nonneg (y : EReal) : 0 ≤ Ideal.exp y := by
  induction y using EReal.rec with
  | bot => simp
  | top => simp
  | coe r => exact EReal.coe_nonneg.2 (Real.exp_pos r).le

/-- A shift by a real leaves the log-softmax, where no logit is the top and some logit is not the bottom. -/
theorem log_softmax_real (X : Fin 19 → EReal) (m : ℝ) (ht : ∀ j, X j ≠ ⊤) (hb : ∃ j, X j ≠ ⊥) (k : Fin 19) :
    X k - (m : EReal) - Ideal.log (0 + ∑ j, Ideal.exp (X j - (m : EReal))) = X k - Ideal.log (∑ j, Ideal.exp (X j)) := by
  choose e h0 hp he hs using fun j => exp_shift (X j) (ht j) m
  obtain ⟨j0, hj0⟩ := hb
  have hS : 0 < ∑ j, e j := Finset.sum_pos' (fun j _ => h0 j) ⟨j0, Finset.mem_univ _, hp j0 hj0⟩
  have hT : 0 < (∑ j, e j) * Real.exp (-m) := mul_pos hS (Real.exp_pos _)
  simp only [he, hs]
  rw [zero_add, sum_coe, sum_coe, ← Finset.sum_mul, Ideal.log_coe, Ideal.log_coe, if_neg (not_le.2 hT), if_neg (not_le.2 hS),
    Real.log_mul hS.ne' (Real.exp_pos _).ne', Real.log_exp]
  have hk := ht k
  generalize X k = y at hk
  induction y using EReal.rec with
  | bot => simp only [EReal.bot_sub]
  | top => exact absurd rfl hk
  | coe r =>
    rw [← EReal.coe_sub, ← EReal.coe_sub, ← EReal.coe_sub]
    refine congrArg Real.toEReal ?_
    ring

/-- A shift by the greatest logit leaves the log-softmax, whatever extended reals the logits are. -/
theorem log_softmax_shift (X : Fin 19 → EReal) (M : EReal) (hM : M = Finset.univ.fold max (⊥ : EReal) X) (k : Fin 19) :
    X k - M - Ideal.log (0 + ∑ j, Ideal.exp (X j - M)) = X k - Ideal.log (∑ j, Ideal.exp (X j)) := by
  have hle : ∀ j, X j ≤ M := fun j => hM ▸ (Finset.le_fold_max _).2 (Or.inr ⟨j, Finset.mem_univ _, le_refl _⟩)
  induction M using EReal.rec with
  | bot =>
    rw [le_bot_iff.1 (hle k)]
    simp only [EReal.bot_sub]
  | top =>
    obtain ⟨j0, h0⟩ : ∃ j, X j = ⊤ := by
      by_contra hc
      have : Finset.univ.fold max (⊥ : EReal) X < ⊤ :=
        (Finset.fold_max_lt _).2 ⟨bot_lt_top, fun j _ => lt_top_iff_ne_top.2 fun h => hc ⟨j, h⟩⟩
      exact absurd hM.symm this.ne
    have hS : ∑ j, Ideal.exp (X j) = ⊤ := by
      refine top_le_iff.1 (le_trans (le_of_eq ?_) (Finset.single_le_sum (fun j _ => exp_nonneg (X j)) (Finset.mem_univ j0)))
      rw [h0, Ideal.exp_top]
    rw [hS, Ideal.log_top, EReal.sub_top, EReal.bot_sub]
  | coe m =>
    refine log_softmax_real X m (fun j h => ?_) ?_ k
    · exact absurd (h ▸ hle j) (not_le.2 (EReal.coe_lt_top m))
    · by_contra hc
      have : Finset.univ.fold max (⊥ : EReal) X ≤ ⊥ := (Finset.fold_max_le _).2 ⟨le_refl _, fun j _ => le_of_eq (by_contra fun h => hc ⟨j, h⟩)⟩
      exact absurd (hM.trans (le_bot_iff.1 this)) (EReal.coe_ne_bot m)

/-- The pattern of minus infinity is the bottom extended real. -/
theorem ofBits_neg_inf : Ideal.ofBits .f32 0xFF800000#32 = ⊥ := by simp [Ideal.ofBits, Ideal.ieee]

/-- A maximum over the second of four axes, as a fold. -/
theorem axis_max {n0 n1 n2 n3 : Nat} {u : Shape} (x : (⟨4, ![n0, n1, n2, n3]⟩ : Shape).Idx → EReal) (z : u.Idx → EReal)
    (h : (⟨4, ![n0, n1, n2, n3]⟩ : Shape).ReducesTo [1] ⟨3, ![n0, n2, n3]⟩) (hu : 0 < u.numel) (b : Fin n0) (r : Fin n2) (c : Fin n3) :
    Host.reduce max x z h hu (ix3 b r c) = Finset.univ.fold max (z (Shape.Idx.first hu)) (fun k : Fin n1 => x (ix4 b k r c)) := by
  rw [Host.reduce_eq_fold, Shape.ReducesTo.fold_fiber_r4_a1]
  rfl

/-- The same under one more maximum. -/
theorem max_axis_max {n0 n1 n2 n3 : Nat} {u : Shape} (x : FVec Ideal ⟨4, ![n0, n1, n2, n3]⟩ .f32) (z : FVec Ideal u .f32)
    (a : FVec Ideal ⟨3, ![n0, n2, n3]⟩ .f32)
    (h : (⟨4, ![n0, n1, n2, n3]⟩ : Shape).ReducesTo [1] ⟨3, ![n0, n2, n3]⟩) (hu : 0 < u.numel) (b : Fin n0) (r : Fin n2) (c : Fin n3) :
    maximumf a (Host.reduce FloatOps.maximumf x z h hu) (ix3 b r c)
      = max (a (ix3 b r c) : EReal) (Finset.univ.fold max (z (Shape.Idx.first hu) : EReal) (fun k : Fin n1 => (x (ix4 b k r c) : EReal))) :=
  congrArg (max (a (ix3 b r c) : EReal)) (axis_max x z h hu b r c)

variable (x : Logits)

/-- A pixel's greatest logit, as a fold. -/
theorem refMax_fold (b : Fin 8) (r c : Fin 512) :
    refMax x (ix3 b r c) = max (Ideal.ofBits .f32 0xFF800000#32) (Finset.univ.fold max (Ideal.ofBits .f32 0xFF800000#32) (fun k : Fin 19 => x (ix4 b k r c))) :=
  max_axis_max x _ _ _ _ b r c

theorem shift_apply (b : Fin 8) (k : Fin 19) (r c : Fin 512) : shift x (ix4 b k r c) = x (ix4 b k r c) - refMax x (ix3 b r c) := by
  pointwise [shift]

theorem refLog_sum (b : Fin 8) (k : Fin 19) (r c : Fin 512) :
    refLog x (ix4 b k r c) = shift x (ix4 b k r c) - Ideal.log (0 + ∑ j : Fin 19, Ideal.exp (shift x (ix4 b j r c))) := by
  pointwise [refLog]

/-- The log-softmax. -/
theorem refLog_apply (b : Fin 8) (k : Fin 19) (r c : Fin 512) : refLog x (ix4 b k r c) = x (ix4 b k r c) - lse x b r c := by
  have hM : refMax x (ix3 b r c) = Finset.univ.fold max (⊥ : EReal) (fun j : Fin 19 => x (ix4 b j r c)) := by
    rw [refMax_fold, ofBits_neg_inf]
    exact max_eq_right bot_le
  rw [refLog_sum]
  simp only [shift_apply]
  exact log_softmax_shift (fun j => x (ix4 b j r c)) _ hM k

end Cert.Proof.K

end
-- ==== Proof.RefLoss.lean ====
/-
  The reference's loss, where every class is below 19: the loss written as plain sums.
-/
module

public import proofs.«01_k».proof.Proof.RefPixels
public import proofs.«01_k».proof.Proof.RefLik

@[expose] public section

noncomputable section

namespace Cert.Proof.K

open Cert.ReferenceIdeal Cert.ReferenceIdeal.Gen
open Idealize.ShloMosaic

/-- The class axis of one, dropped. -/
theorem drop_axis_apply {α : Type} (v : S8x1x512x512.Idx → α) (b : Fin 8) (r c : Fin 512) :
    shapeCast S8x512x512 v shapeCasts_S8x1x512x512_S8x512x512 (ix3 b r c) = v (ix4 b 0 r c) := by
  pointwise []

/-- The images' quotients, summed. -/
theorem quotients_apply (w p : FVec Ideal S8x512x512 .f32) :
    Host.reduceAdd (Host.divf (Host.negf (Host.reduceAdd (mulf w p) (constant S_ .f32 0x00000000#32) reducesTo_S8x512x512_S8_d1_2 h_S_))
      (Host.reduceAdd w (constant S_ .f32 0x00000000#32) reducesTo_S8x512x512_S8_d1_2 h_S_)) (constant S_ .f32 0x00000000#32) reducesTo_S8_S_d0 h_S_ ix0
      = ∑ b : Fin 8, Ideal.div (-(∑ r : Fin 512, ∑ c : Fin 512, (w (ix3 b r c) : EReal) * p (ix3 b r c))) (∑ r : Fin 512, ∑ c : Fin 512, (w (ix3 b r c) : EReal)) := by
  have e : Host.reduceAdd (Host.divf (Host.negf (Host.reduceAdd (mulf w p) (constant S_ .f32 0x00000000#32) reducesTo_S8x512x512_S8_d1_2 h_S_))
      (Host.reduceAdd w (constant S_ .f32 0x00000000#32) reducesTo_S8x512x512_S8_d1_2 h_S_)) (constant S_ .f32 0x00000000#32) reducesTo_S8_S_d0 h_S_ ix0
      = 0 + ∑ b : Fin 8, Ideal.div (-(0 + ∑ r : Fin 512, ∑ c : Fin 512, (w (ix3 b r c) : EReal) * p (ix3 b r c))) (0 + ∑ r : Fin 512, ∑ c : Fin 512, (w (ix3 b r c) : EReal)) := by
    pointwise []
  rw [e]
  simp only [zero_add]

variable (x : Logits) (t : Targets) (ht : ∀ p, (t p).toNat < 19)

include ht

/-- A pixel's log-likelihood. -/
theorem refPick_apply (b : Fin 8) (r c : Fin 512) : refPick x t (ix3 b r c) = lik x t b r c := by
  have hn : (Fin.ofNat 19 (cls t b r c)).val = (t (ix3 b r c)).toNat := Nat.mod_eq_of_lt (ht _)
  refine (drop_axis_apply _ b r c).trans ?_
  show Scalar.select (pickOk t (ix4 b 0 r c)) (Host.gather pickDims (refLog x) (pickT t) (ix4 b 0 r c)) _ = _
  rw [pickOk_apply t ht, pick_apply (refLog x) (pickT t) b r c (Fin.ofNat 19 (cls t b r c)) ?_, refLog_apply x]
  · rfl
  · rw [pickT_apply t ht, (word_facts (t (ix3 b r c)) (ht _)).2.2.2.2.2.2, hn]

/-- The loss. -/
theorem refLoss_eq : refLoss x t = fun _ => lossSum x t := by
  funext i
  obtain rfl : i = ix0 := funext fun k => k.elim0
  refine (quotients_apply (refW t) (refPick x t)).trans ?_
  simp only [refW_apply t ht, refPick_apply x t ht]
  rfl

end Cert.Proof.K

end
-- ==== Proof.Algebraic.lean ====
/-
  The kernel and the reference give the same loss over the extended reals, from any logits and classes below 19: both are
  the loss written as plain sums.
-/
module

public import proofs.«01_k».proof.Proof.Frames
public import proofs.«01_k».proof.Proof.KernelLoss
public import proofs.«01_k».proof.Proof.Counts
public import proofs.«01_k».proof.Proof.RefLoss

@[expose] public section

noncomputable section

namespace Cert.Proof.K

open Idealize.ShloMosaic Idealize.SL.Sem

/-- The kernel's loss. -/
theorem loss_eq (m : (ℓ : Loc Cert.KernelIdeal.nD Cert.KernelIdeal.τ Cert.KernelIdeal.sig) → Buf (Elt Ideal) ℓ) (d : Dev Cert.KernelIdeal.nD)
    (ht : InRange m) : loss (F := Ideal) m d = lossSum (m (xLoc d)) (m (tLoc d)) :=
  lossOf_eq (W4 m) d (m (xLoc d)) (m (tLoc d)) (ht d) (V4_x m d) (V4_t m d)
    (fun n => (congrFun (V4_bins m d) (ix1 n)).trans (bins_count (m (tLoc d)) (ht d) n))

/-- The reference's loss. -/
theorem ref_loss_eq (m : (ℓ : Loc Cert.ReferenceIdeal.nD Cert.ReferenceIdeal.τ Cert.ReferenceIdeal.sig) → Buf (Elt Ideal) ℓ) (c : Dev Cert.ReferenceIdeal.nD)
    (x : Logits) (t : Targets) (ht : ∀ p, (t p).toNat < 19)
    (e0 : m ((c.tc : Thread Cert.ReferenceIdeal.nD Cert.ReferenceIdeal.τ).loc Cert.ReferenceIdeal.main_arg0) = x)
    (e1 : m ((c.tc : Thread Cert.ReferenceIdeal.nD Cert.ReferenceIdeal.τ).loc Cert.ReferenceIdeal.main_arg1) = t) :
    Cert.ReferenceIdeal.Value.res_main_v51 (F := Ideal) m c = fun _ => lossSum x t :=
  (ref_eq m c).trans ((congrArg₂ refLoss e0 e1).trans (refLoss_eq x t ht))

/-- The two programs' results are equal. -/
theorem algebraic : Cert.algebraic_KernelIdeal_ReferenceIdeal := by
  intro m g m' g' h hm
  have ht : InRange m := fun d x => range_of_targets _ _ (h d) x
  refine ⟨fun c => fun _ => loss (F := Ideal) m c, ?_, ?_⟩
  · exact (θ_run Cert.KernelIdeal.defs _ _).mono (fun _ h c => ⟨(h.1 c).2.2, (h.1 c).1, (h.1 c).2.1⟩) (run_main (F := Ideal) m g ht)
  · refine (θ_run Cert.ReferenceIdeal.defs _ _).mono (fun _ hr c => ⟨(hr c).1.trans ?_, (hr c).2⟩) (Cert.ReferenceIdeal.Value.run (F := Ideal) m' g')
    refine (ref_loss_eq m' c (m (xLoc c)) (m (tLoc c)) (ht c) (hm c).1 (hm c).2).trans ?_
    exact congrArg (fun v => fun _ => v) (loss_eq m c ht).symm

end Cert.Proof.K

end
-- ==== Proof.lean ====
/- The certificate: every claim of Defs.lean, from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_targets_in_range
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_targets_in_range.Gen.facts, K.frame_kernel, K.frame_ideal, K.frame_ref, K.frame_ref_in_range,
  trivial, K.algebraic⟩

end Cert.Proof

end
